-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_pile_has_an_empty_slice [hPre_every_pile_has_an_empty_slice : Cert.Pre_every_pile_has_an_empty_slice.Facts] (m : (ℓ : Loc Cert.KernelIdeal.nD Cert.KernelIdeal.τ Cert.KernelIdeal.sig) → Buf (Elt Ideal) ℓ) : Prop :=
  ∀ c : Dev Cert.KernelIdeal.nD,
    (Cert.Pre_every_pile_has_an_empty_slice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_pile_has_an_empty_slice [hPre_every_pile_has_an_empty_slice : Cert.Pre_every_pile_has_an_empty_slice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_pile_has_an_empty_slice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_every_pile_has_an_empty_slice [hKernelIdeal : Cert.KernelIdeal.Facts] [hPre_every_pile_has_an_empty_slice : Cert.Pre_every_pile_has_an_empty_slice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_pile_has_an_empty_slice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_every_pile_has_an_empty_slice [hReferenceIdeal : Cert.ReferenceIdeal.Facts] [hPre_every_pile_has_an_empty_slice : Cert.Pre_every_pile_has_an_empty_slice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_pile_has_an_empty_slice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_every_pile_has_an_empty_slice [hKernelIdeal : Cert.KernelIdeal.Facts] [hReferenceIdeal : Cert.ReferenceIdeal.Facts] [hPre_every_pile_has_an_empty_slice : Cert.Pre_every_pile_has_an_empty_slice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_pile_has_an_empty_slice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_every_pile_has_an_empty_slice : Cert.Pre_every_pile_has_an_empty_slice.Facts),
    quiescent_Kernel (hKernel := hKernel)
    ∧ quiescent_KernelIdeal (hKernelIdeal := hKernelIdeal)
    ∧ quiescent_KernelIdeal_pre_every_pile_has_an_empty_slice (hKernelIdeal := hKernelIdeal) (hPre_every_pile_has_an_empty_slice := hPre_every_pile_has_an_empty_slice)
    ∧ quiescent_ReferenceIdeal (hReferenceIdeal := hReferenceIdeal)
    ∧ quiescent_ReferenceIdeal_pre_every_pile_has_an_empty_slice (hReferenceIdeal := hReferenceIdeal) (hPre_every_pile_has_an_empty_slice := hPre_every_pile_has_an_empty_slice)
    ∧ preserves_Kernel_KernelIdeal
    ∧ algebraic_KernelIdeal_ReferenceIdeal_pre_every_pile_has_an_empty_slice (hKernelIdeal := hKernelIdeal) (hReferenceIdeal := hReferenceIdeal) (hPre_every_pile_has_an_empty_slice := hPre_every_pile_has_an_empty_slice)
-- ==== Pre_every_pile_has_an_empty_slice.lean ====
abbrev S256x13x4x13 : Shape := ⟨4, ![256, 13, 4, 13]⟩
abbrev S256x52x4x13 : Shape := ⟨4, ![256, 52, 4, 13]⟩
abbrev S2704x676 : Shape := ⟨2, ![2704, 676]⟩
abbrev S2704 : Shape := ⟨1, ![2704]⟩
abbrev S1352x2704 : Shape := ⟨2, ![1352, 2704]⟩
abbrev S1352 : Shape := ⟨1, ![1352]⟩
abbrev S8112x52 : Shape := ⟨2, ![8112, 52]⟩
abbrev S8112x2704 : Shape := ⟨2, ![8112, 2704]⟩
abbrev S8112 : Shape := ⟨1, ![8112]⟩
abbrev S256x52x52 : Shape := ⟨3, ![256, 52, 52]⟩
abbrev S_ : Shape := ⟨0, ![]⟩
abbrev S256x52 : Shape := ⟨2, ![256, 52]⟩
abbrev S256 : Shape := ⟨1, ![256]⟩

class Facts : Prop where
  shapeCasts_S256x52x4x13_S256x52x52 : S256x52x4x13.ShapeCasts S256x52x52
  reducesTo_S256x52x52_S256x52_d2 : S256x52x52.ReducesTo [2] S256x52
  h_S_ : 0 < S_.numel
  bcast_S_S256x52 : S_.BroadcastsInDim S256x52 (![] : Fin 0 → Fin S256x52.rank)
  reducesTo_S256x52_S256_d1 : S256x52.ReducesTo [1] S256

variable [Facts]

def fn {F : FTy → Type} [FloatOps F] (main_arg0 : FVec F S256x13x4x13 .f32) (main_arg1 : FVec F S256x52x4x13 .f32) (main_arg2 : FVec F S2704x676 .f32) (main_arg3 : FVec F S2704 .f32) (main_arg4 : FVec F S1352x2704 .f32) (main_arg5 : FVec F S1352 .f32) (main_arg6 : FVec F S8112x52 .f32) (main_arg7 : FVec F S8112x2704 .f32) (main_arg8 : FVec F S8112 .f32) (main_arg9 : FVec F S8112 .f32) (main_arg10 : FVec F S1352x2704 .f32) (main_arg11 : FVec F S1352 .f32) : IVec S256 1 :=
  let main_v0 : FVec F S256x52x52 .f32 := shapeCast S256x52x52 main_arg1 shapeCasts_S256x52x4x13_S256x52x52
  let main_cst : FVec F S_ .f32 := constant S_ .f32 0x00000000#32
  let main_v1 : FVec F S256x52 .f32 := (fun x v => Host.reduceAdd x v reducesTo_S256x52x52_S256x52_d2 h_S_) main_v0 main_cst
  let main_cst_0 : FVec F S_ .f32 := constant S_ .f32 0x00000000#32
  let main_v2 : FVec F S256x52 .f32 := broadcastInDim S256x52 ![] bcast_S_S256x52 main_cst_0
  let main_v3 : IVec S256x52 1 := cmpf .oeq main_v1 main_v2
  let main_c : IVec S_ 1 := constantI S_ 1 0#1
  let main_v4 : IVec S256 1 := (fun x v => Host.reduce IntOp.ori x v reducesTo_S256x52_S256_d1 h_S_) main_v3 main_c
  main_v4
-- ==== Kernel.lean ====
abbrev S256x13x4x13 : Shape := ⟨4, ![256, 13, 4, 13]⟩
abbrev S256x52x4x13 : Shape := ⟨4, ![256, 52, 4, 13]⟩
abbrev S2704x676 : Shape := ⟨2, ![2704, 676]⟩
abbrev S2704 : Shape := ⟨1, ![2704]⟩
abbrev S1352x2704 : Shape := ⟨2, ![1352, 2704]⟩
abbrev S1352 : Shape := ⟨1, ![1352]⟩
abbrev S8112x52 : Shape := ⟨2, ![8112, 52]⟩
abbrev S8112x2704 : Shape := ⟨2, ![8112, 2704]⟩
abbrev S8112 : Shape := ⟨1, ![8112]⟩
abbrev S256x52x52 : Shape := ⟨3, ![256, 52, 52]⟩
abbrev S52x52x256 : Shape := ⟨3, ![52, 52, 256]⟩
abbrev S_ : Shape := ⟨0, ![]⟩
abbrev S52x1x256 : Shape := ⟨3, ![52, 1, 256]⟩
abbrev S52x53x256 : Shape := ⟨3, ![52, 53, 256]⟩
abbrev S2704x52 : Shape := ⟨2, ![2704, 52]⟩
abbrev S2704x1 : Shape := ⟨2, ![2704, 1]⟩
abbrev S2704x53 : Shape := ⟨2, ![2704, 53]⟩
abbrev S2704x2704 : Shape := ⟨2, ![2704, 2704]⟩
abbrev S2704x2705 : Shape := ⟨2, ![2704, 2705]⟩
abbrev S2705x256 : Shape := ⟨2, ![2705, 256]⟩
abbrev S1x256 : Shape := ⟨2, ![1, 256]⟩
abbrev S2704x256 : Shape := ⟨2, ![2704, 256]⟩
abbrev S1x53x256 : Shape := ⟨3, ![1, 53, 256]⟩
abbrev S53x256 : Shape := ⟨2, ![53, 256]⟩
abbrev S256 : Shape := ⟨1, ![256]⟩
abbrev S256x676 : Shape := ⟨2, ![256, 676]⟩
abbrev S676x256 : Shape := ⟨2, ![676, 256]⟩
abbrev S677x256 : Shape := ⟨2, ![677, 256]⟩
abbrev S2704x677 : Shape := ⟨2, ![2704, 677]⟩
abbrev S1352x1 : Shape := ⟨2, ![1352, 1]⟩
abbrev S1352x2705 : Shape := ⟨2, ![1352, 2705]⟩
abbrev S1352x256 : Shape := ⟨2, ![1352, 256]⟩
abbrev S256x1352 : Shape := ⟨2, ![256, 1352]⟩

abbrev nBuf : Space → Nat
  | .hbm => 65
  | .vmem => 18
  | .smem => 0
  | _ => 0

abbrev bufTy : (tb : Table) → Fin (tcTables nBuf tb) → BufTy
  | .hbm, ⟨0, _⟩ => ⟨S256x13x4x13, .f32⟩
  | .hbm, ⟨1, _⟩ => ⟨S256x52x4x13, .f32⟩
  | .hbm, ⟨2, _⟩ => ⟨S2704x676, .f32⟩
  | .hbm, ⟨3, _⟩ => ⟨S2704, .f32⟩
  | .hbm, ⟨4, _⟩ => ⟨S1352x2704, .f32⟩
  | .hbm, ⟨5, _⟩ => ⟨S1352, .f32⟩
  | .hbm, ⟨6, _⟩ => ⟨S8112x52, .f32⟩
  | .hbm, ⟨7, _⟩ => ⟨S8112x2704, .f32⟩
  | .hbm, ⟨8, _⟩ => ⟨S8112, .f32⟩
  | .hbm, ⟨9, _⟩ => ⟨S8112, .f32⟩
  | .hbm, ⟨10, _⟩ => ⟨S1352x2704, .f32⟩
  | .hbm, ⟨11, _⟩ => ⟨S1352, .f32⟩
  | .hbm, ⟨12, _⟩ => ⟨S256x52x52, .f32⟩
  | .hbm, ⟨13, _⟩ => ⟨S52x52x256, .f32⟩
  | .hbm, ⟨14, _⟩ => ⟨S_, .f32⟩
  | .hbm, ⟨15, _⟩ => ⟨S52x1x256, .f32⟩
  | .hbm, ⟨16, _⟩ => ⟨S52x53x256, .f32⟩
  | .hbm, ⟨17, _⟩ => ⟨S52x53x256, .bf16⟩
  | .hbm, ⟨18, _⟩ => ⟨S2704x52, .f32⟩
  | .hbm, ⟨19, _⟩ => ⟨S2704, .f32⟩
  | .hbm, ⟨20, _⟩ => ⟨S2704, .f32⟩
  | .hbm, ⟨21, _⟩ => ⟨S2704, .f32⟩
  | .hbm, ⟨22, _⟩ => ⟨S2704x1, .f32⟩
  | .hbm, ⟨23, _⟩ => ⟨S2704x53, .f32⟩
  | .hbm, ⟨24, _⟩ => ⟨S2704x53, .bf16⟩
  | .hbm, ⟨25, _⟩ => ⟨S2704x52, .f32⟩
  | .hbm, ⟨26, _⟩ => ⟨S2704, .f32⟩
  | .hbm, ⟨27, _⟩ => ⟨S2704, .f32⟩
  | .hbm, ⟨28, _⟩ => ⟨S2704, .f32⟩
  | .hbm, ⟨29, _⟩ => ⟨S2704x1, .f32⟩
  | .hbm, ⟨30, _⟩ => ⟨S2704x53, .f32⟩
  | .hbm, ⟨31, _⟩ => ⟨S2704x53, .bf16⟩
  | .hbm, ⟨32, _⟩ => ⟨S2704x52, .f32⟩
  | .hbm, ⟨33, _⟩ => ⟨S2704, .f32⟩
  | .hbm, ⟨34, _⟩ => ⟨S2704x1, .f32⟩
  | .hbm, ⟨35, _⟩ => ⟨S2704x53, .f32⟩
  | .hbm, ⟨36, _⟩ => ⟨S2704x53, .bf16⟩
  | .hbm, ⟨37, _⟩ => ⟨S2704x2704, .f32⟩
  | .hbm, ⟨38, _⟩ => ⟨S2704x2704, .bf16⟩
  | .hbm, ⟨39, _⟩ => ⟨S2704x2704, .f32⟩
  | .hbm, ⟨40, _⟩ => ⟨S2704x2704, .bf16⟩
  | .hbm, ⟨41, _⟩ => ⟨S2704x2704, .f32⟩
  | .hbm, ⟨42, _⟩ => ⟨S2704, .f32⟩
  | .hbm, ⟨43, _⟩ => ⟨S2704x1, .f32⟩
  | .hbm, ⟨44, _⟩ => ⟨S2704x2705, .f32⟩
  | .hbm, ⟨45, _⟩ => ⟨S2704x2705, .bf16⟩
  | .hbm, ⟨46, _⟩ => ⟨S2705x256, .f32⟩
  | .hbm, ⟨47, _⟩ => ⟨S1x256, .i32⟩
  | .hbm, ⟨48, _⟩ => ⟨S256x676, .f32⟩
  | .hbm, ⟨49, _⟩ => ⟨S676x256, .f32⟩
  | .hbm, ⟨50, _⟩ => ⟨S_, .f32⟩
  | .hbm, ⟨51, _⟩ => ⟨S1x256, .f32⟩
  | .hbm, ⟨52, _⟩ => ⟨S677x256, .f32⟩
  | .hbm, ⟨53, _⟩ => ⟨S677x256, .bf16⟩
  | .hbm, ⟨54, _⟩ => ⟨S2704x1, .f32⟩
  | .hbm, ⟨55, _⟩ => ⟨S2704x677, .f32⟩
  | .hbm, ⟨56, _⟩ => ⟨S2704x677, .bf16⟩
  | .hbm, ⟨57, _⟩ => ⟨S1352x1, .f32⟩
  | .hbm, ⟨58, _⟩ => ⟨S1352x2705, .f32⟩
  | .hbm, ⟨59, _⟩ => ⟨S1352x2705, .bf16⟩
  | .hbm, ⟨60, _⟩ => ⟨S1352x1, .f32⟩
  | .hbm, ⟨61, _⟩ => ⟨S1352x2705, .f32⟩
  | .hbm, ⟨62, _⟩ => ⟨S1352x2705, .bf16⟩
  | .hbm, ⟨63, _⟩ => ⟨S1352x256, .f32⟩
  | .hbm, ⟨64, _⟩ => ⟨S256x1352, .f32⟩
  | .local _ .vmem, ⟨0, _⟩ => ⟨S52x53x256, .bf16⟩
  | .local _ .vmem, ⟨1, _⟩ => ⟨S2704x53, .bf16⟩
  | .local _ .vmem, ⟨2, _⟩ => ⟨S2704x53, .bf16⟩
  | .local _ .vmem, ⟨3, _⟩ => ⟨S2704x53, .bf16⟩
  | .local _ .vmem, ⟨4, _⟩ => ⟨S2704x2704, .bf16⟩
  | .local _ .vmem, ⟨5, _⟩ => ⟨S2704x2704, .bf16⟩
  | .local _ .vmem, ⟨6, _⟩ => ⟨S2704x2705, .bf16⟩
  | .local _ .vmem, ⟨7, _⟩ => ⟨S2705x256, .f32⟩
  | .local _ .vmem, ⟨8, _⟩ => ⟨S1x256, .i32⟩
  | .local _ .vmem, ⟨9, _⟩ => ⟨S1x256, .f32⟩
  | .local _ .vmem, ⟨10, _⟩ => ⟨S677x256, .bf16⟩
  | .local _ .vmem, ⟨11, _⟩ => ⟨S2705x256, .f32⟩
  | .local _ .vmem, ⟨12, _⟩ => ⟨S1x256, .i32⟩
  | .local _ .vmem, ⟨13, _⟩ => ⟨S2704x677, .bf16⟩
  | .local _ .vmem, ⟨14, _⟩ => ⟨S1352x2705, .bf16⟩
  | .local _ .vmem, ⟨15, _⟩ => ⟨S1352x2705, .bf16⟩
  | .local _ .vmem, ⟨16, _⟩ => ⟨S1352x256, .f32⟩
  | .local _ .vmem, ⟨17, _⟩ => ⟨S2705x256, .f32⟩
  | _, _ => ⟨S256x13x4x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v34 : Ref sig .tc := ⟨.hbm, 48, rfl⟩
abbrev main_v35 : Ref sig .tc := ⟨.hbm, 49, rfl⟩
abbrev main_cst_0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c52_i32 : BitVec 32 := 52#32
  let v8 : BitVec 32 := Scalar.addi c0_i32 c52_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let v9 : Index := Scalar.indexCast arg10
  let c0_7 : Index := 0#32
  let c0_8 : Index := 0#32
  ![v9.toNat, 0, 0]
abbrev stage0_0 : Fin 1 → Memref sig .tc .vmem S52x53x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2704x53 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2704x53 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2704x53 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2704x2704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2704x2704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2704x2705 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2705x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

abbrev stage1_0 : Fin 1 → Memref sig .tc .vmem S677x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2705x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2704x677 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1352x2705 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1352x2705 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1352x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S256x13x4x13 : Shape := ⟨4, ![256, 13, 4, 13]⟩
abbrev S256x52x4x13 : Shape := ⟨4, ![256, 52, 4, 13]⟩
abbrev S2704x676 : Shape := ⟨2, ![2704, 676]⟩
abbrev S2704 : Shape := ⟨1, ![2704]⟩
abbrev S1352x2704 : Shape := ⟨2, ![1352, 2704]⟩
abbrev S1352 : Shape := ⟨1, ![1352]⟩
abbrev S8112x52 : Shape := ⟨2, ![8112, 52]⟩
abbrev S8112x2704 : Shape := ⟨2, ![8112, 2704]⟩
abbrev S8112 : Shape := ⟨1, ![8112]⟩
abbrev S256x676 : Shape := ⟨2, ![256, 676]⟩
abbrev S676x2704 : Shape := ⟨2, ![676, 2704]⟩
abbrev S256x2704 : Shape := ⟨2, ![256, 2704]⟩
abbrev S1x2704 : Shape := ⟨2, ![1, 2704]⟩
abbrev S_ : Shape := ⟨0, ![]⟩
abbrev S2704x1352 : Shape := ⟨2, ![2704, 1352]⟩
abbrev S256x1352 : Shape := ⟨2, ![256, 1352]⟩
abbrev S1x1352 : Shape := ⟨2, ![1, 1352]⟩
abbrev S256x52x52 : Shape := ⟨3, ![256, 52, 52]⟩
abbrev S256x52 : Shape := ⟨2, ![256, 52]⟩
abbrev S256 : Shape := ⟨1, ![256]⟩
abbrev S52 : Shape := ⟨1, ![52]⟩
abbrev S52x1 : Shape := ⟨2, ![52, 1]⟩
abbrev S1x256 : Shape := ⟨2, ![1, 256]⟩
abbrev S52x256 : Shape := ⟨2, ![52, 256]⟩
abbrev S52x256x52 : Shape := ⟨3, ![52, 256, 52]⟩
abbrev S1x256x52 : Shape := ⟨3, ![1, 256, 52]⟩
abbrev S52x8112 : Shape := ⟨2, ![52, 8112]⟩
abbrev S256x8112 : Shape := ⟨2, ![256, 8112]⟩
abbrev S1x8112 : Shape := ⟨2, ![1, 8112]⟩
abbrev S2704x8112 : Shape := ⟨2, ![2704, 8112]⟩
abbrev S256x1 : Shape := ⟨2, ![256, 1]⟩

abbrev nBuf : Space → Nat
  | .hbm => 137
  | .vmem => 0
  | .smem => 0
  | _ => 0

abbrev hbmTy0_0 (i : Nat) : BufTy := match i % 128 with
  | 0 => ⟨S256x13x4x13, .f32⟩
  | 1 => ⟨S256x52x4x13, .f32⟩
  | 2 => ⟨S2704x676, .f32⟩
  | 3 => ⟨S2704, .f32⟩
  | 4 => ⟨S1352x2704, .f32⟩
  | 5 => ⟨S1352, .f32⟩
  | 6 => ⟨S8112x52, .f32⟩
  | 7 => ⟨S8112x2704, .f32⟩
  | 8 => ⟨S8112, .f32⟩
  | 9 => ⟨S8112, .f32⟩
  | 10 => ⟨S1352x2704, .f32⟩
  | 11 => ⟨S1352, .f32⟩
  | 12 => ⟨S256x676, .f32⟩
  | 13 => ⟨S676x2704, .f32⟩
  | 14 => ⟨S256x2704, .f32⟩
  | 15 => ⟨S1x2704, .f32⟩
  | 16 => ⟨S256x2704, .f32⟩
  | 17 => ⟨S256x2704, .f32⟩
  | 18 => ⟨S_, .f32⟩
  | 19 => ⟨S256x2704, .f32⟩
  | 20 => ⟨S256x2704, .f32⟩
  | 21 => ⟨S2704x1352, .f32⟩
  | 22 => ⟨S256x1352, .f32⟩
  | 23 => ⟨S1x1352, .f32⟩
  | 24 => ⟨S256x1352, .f32⟩
  | 25 => ⟨S256x1352, .f32⟩
  | 26 => ⟨S256x52x52, .f32⟩
  | 27 => ⟨S_, .f32⟩
  | 28 => ⟨S256x52, .f32⟩
  | 29 => ⟨S_, .f32⟩
  | 30 => ⟨S256x52, .f32⟩
  | 31 => ⟨S256x52, .i1⟩
  | 32 => ⟨S_, .i1⟩
  | 33 => ⟨S256, .i1⟩
  | 34 => ⟨S256x52, .i32⟩
  | 35 => ⟨S_, .i1⟩
  | 36 => ⟨S_, .i32⟩
  | 37 => ⟨S256, .i1⟩
  | 38 => ⟨S256, .i32⟩
  | 39 => ⟨S_, .i32⟩
  | 40 => ⟨S_, .i32⟩
  | 41 => ⟨S256, .i32⟩
  | 42 => ⟨S256, .i32⟩
  | 43 => ⟨S_, .i32⟩
  | 44 => ⟨S256, .i32⟩
  | 45 => ⟨S256, .i1⟩
  | 46 => ⟨S256x52x52, .f32⟩
  | 47 => ⟨S_, .f32⟩
  | 48 => ⟨S256x2704, .f32⟩
  | 49 => ⟨S52, .i32⟩
  | 50 => ⟨S52x1, .i32⟩
  | 51 => ⟨S1x256, .i32⟩
  | 52 => ⟨S52x256, .i32⟩
  | 53 => ⟨S52x256, .i32⟩
  | 54 => ⟨S52x256, .i1⟩
  | 55 => ⟨S52x256x52, .f32⟩
  | 56 => ⟨S_, .i32⟩
  | 57 => ⟨S52x256x52, .f32⟩
  | 58 => ⟨S52x256, .i1⟩
  | 59 => ⟨S8112x52, .f32⟩
  | 60 => ⟨S8112, .f32⟩
  | 61 => ⟨S8112x2704, .f32⟩
  | 62 => ⟨S8112, .f32⟩
  | 63 => ⟨S_, .i32⟩
  | 64 => ⟨S256x2704, .f32⟩
  | 65 => ⟨S_, .i32⟩
  | 66 => ⟨S_, .i1⟩
  | 67 => ⟨S_, .i32⟩
  | 68 => ⟨S_, .i32⟩
  | 69 => ⟨S1x256x52, .f32⟩
  | 70 => ⟨S256x52, .f32⟩
  | 71 => ⟨S_, .i32⟩
  | 72 => ⟨S1x256, .i1⟩
  | 73 => ⟨S256, .i1⟩
  | 74 => ⟨S52x8112, .f32⟩
  | 75 => ⟨S256x8112, .f32⟩
  | 76 => ⟨S1x8112, .f32⟩
  | 77 => ⟨S256x8112, .f32⟩
  | 78 => ⟨S256x8112, .f32⟩
  | 79 => ⟨S2704x8112, .f32⟩
  | 80 => ⟨S256x8112, .f32⟩
  | 81 => ⟨S1x8112, .f32⟩
  | 82 => ⟨S256x8112, .f32⟩
  | 83 => ⟨S256x8112, .f32⟩
  | 84 => ⟨S256x2704, .f32⟩
  | 85 => ⟨S256x2704, .f32⟩
  | 86 => ⟨S256x2704, .f32⟩
  | 87 => ⟨S256x2704, .f32⟩
  | 88 => ⟨S256x2704, .f32⟩
  | 89 => ⟨S256x2704, .f32⟩
  | 90 => ⟨S256x2704, .f32⟩
  | 91 => ⟨S256x2704, .f32⟩
  | 92 => ⟨S256x2704, .f32⟩
  | 93 => ⟨S_, .f32⟩
  | 94 => ⟨S256x2704, .f32⟩
  | 95 => ⟨S256x2704, .f32⟩
  | 96 => ⟨S_, .f32⟩
  | 97 => ⟨S256x2704, .f32⟩
  | 98 => ⟨S256x2704, .f32⟩
  | 99 => ⟨S256x2704, .f32⟩
  | 100 => ⟨S256x2704, .f32⟩
  | 101 => ⟨S256x2704, .f32⟩
  | 102 => ⟨S_, .f32⟩
  | 103 => ⟨S256x2704, .f32⟩
  | 104 => ⟨S256x2704, .f32⟩
  | 105 => ⟨S_, .f32⟩
  | 106 => ⟨S256x2704, .f32⟩
  | 107 => ⟨S256x2704, .f32⟩
  | 108 => ⟨S256x2704, .f32⟩
  | 109 => ⟨S256x2704, .f32⟩
  | 110 => ⟨S256x2704, .f32⟩
  | 111 => ⟨S_, .f32⟩
  | 112 => ⟨S256x2704, .f32⟩
  | 113 => ⟨S256x2704, .f32⟩
  | 114 => ⟨S256x2704, .f32⟩
  | 115 => ⟨S256x2704, .f32⟩
  | 116 => ⟨S256x2704, .f32⟩
  | 117 => ⟨S256x1, .i1⟩
  | 118 => ⟨S256x2704, .i1⟩
  | 119 => ⟨S256x2704, .f32⟩
  | 120 => ⟨S_, .i32⟩
  | 121 => ⟨S_, .i32⟩
  | 122 => ⟨S2704x1352, .f32⟩
  | 123 => ⟨S256x1352, .f32⟩
  | 124 => ⟨S1x1352, .f32⟩
  | 125 => ⟨S256x1352, .f32⟩
  | 126 => ⟨S256x1352, .f32⟩
  | 127 => ⟨S256x1, .i1⟩
  | _ => ⟨S256x13x4x13, .f32⟩

abbrev hbmTy0_1 (i : Nat) : BufTy := match i % 128 with
  | 0 => ⟨S_, .f32⟩
  | 1 => ⟨S256x1352, .f32⟩
  | 2 => ⟨S256x1352, .f32⟩
  | 3 => ⟨S_, .f32⟩
  | 4 => ⟨S256x1352, .f32⟩
  | 5 => ⟨S256x1352, .f32⟩
  | 6 => ⟨S256x1352, .f32⟩
  | 7 => ⟨S256x1352, .i1⟩
  | 8 => ⟨S256x1352, .f32⟩
  | _ => ⟨S256x13x4x13, .f32⟩

abbrev hbmTy (i : Nat) : BufTy := match i / 128 with
  | 0 => hbmTy0_0 i
  | 1 => hbmTy0_1 i
  | _ => ⟨S256x13x4x13, .f32⟩

abbrev bufTy : (tb : Table) → Fin (tcTables nBuf tb) → BufTy
  | .hbm, ⟨i, _⟩ => hbmTy i
  | _, _ => ⟨S256x13x4x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_call1_v0 : Ref sig .tc := ⟨.hbm, 34, rfl⟩
abbrev main_call1_c : Ref sig .tc := ⟨.hbm, 35, rfl⟩
abbrev main_call1_c_0 : Ref sig .tc := ⟨.hbm, 36, rfl⟩
abbrev main_call1_v1_0 : Ref sig .tc := ⟨.hbm, 37, rfl⟩
abbrev main_v17 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev main_v30_3 : Ref sig .tc := ⟨.hbm, 60, rfl⟩
abbrev main_v30_4 : Ref sig .tc := ⟨.hbm, 61, rfl⟩
abbrev main_v30_5 : Ref sig .tc := ⟨.hbm, 62, rfl⟩
abbrev main_v30_6 : Ref sig .tc := ⟨.hbm, 63, rfl⟩
abbrev main_v30_7 : Ref sig .tc := ⟨.hbm, 64, rfl⟩
abbrev main_while0c_c_14 : Ref sig .tc := ⟨.hbm, 65, rfl⟩
abbrev main_while0c_v43 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_v0 : Ref sig .tc := ⟨.hbm, 69, rfl⟩
abbrev main_while0b_v43 : Ref sig .tc := ⟨.hbm, 70, rfl⟩
abbrev main_while0b_call4_c : Ref sig .tc := ⟨.hbm, 71, rfl⟩
abbrev main_while0b_call4_v0 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_cst_14 : Ref sig .tc := ⟨.hbm, 93, rfl⟩
abbrev main_while0b_v64 : Ref sig .tc := ⟨.hbm, 94, rfl⟩
abbrev main_while0b_v65 : Ref sig .tc := ⟨.hbm, 95, rfl⟩
abbrev main_while0b_cst_15 : Ref sig .tc := ⟨.hbm, 96, rfl⟩
abbrev main_while0b_v66 : Ref sig .tc := ⟨.hbm, 97, rfl⟩
abbrev main_while0b_v67 : Ref sig .tc := ⟨.hbm, 98, rfl⟩
abbrev main_while0b_v68 : Ref sig .tc := ⟨.hbm, 99, rfl⟩
abbrev main_while0b_v69 : Ref sig .tc := ⟨.hbm, 100, rfl⟩
abbrev main_while0b_v70 : Ref sig .tc := ⟨.hbm, 101, rfl⟩
abbrev main_while0b_cst_16 : Ref sig .tc := ⟨.hbm, 102, rfl⟩
abbrev main_while0b_v71 : Ref sig .tc := ⟨.hbm, 103, rfl⟩
abbrev main_while0b_v72 : Ref sig .tc := ⟨.hbm, 104, rfl⟩
abbrev main_while0b_cst_17 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_cst_18 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_v81 : Ref sig .tc := ⟨.hbm, 115, rfl⟩
abbrev main_while0b_v82 : Ref sig .tc := ⟨.hbm, 116, rfl⟩
abbrev main_while0b_v83 : Ref sig .tc := ⟨.hbm, 117, rfl⟩
abbrev main_while0b_call5_v0 : Ref sig .tc := ⟨.hbm, 118, rfl⟩
abbrev main_while0b_v84 : Ref sig .tc := ⟨.hbm, 119, rfl⟩
abbrev main_while0b_c_19 : Ref sig .tc := ⟨.hbm, 120, rfl⟩
abbrev main_while0b_v85 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_cst_5 : Ref sig .tc := ⟨.hbm, 128, rfl⟩
abbrev main_v37 : Ref sig .tc := ⟨.hbm, 129, rfl⟩
abbrev main_v38 : Ref sig .tc := ⟨.hbm, 130, rfl⟩
abbrev main_cst_6 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_call6_v0 : Ref sig .tc := ⟨.hbm, 135, rfl⟩
abbrev main_v42 : Ref sig .tc := ⟨.hbm, 136, rfl⟩

abbrev nD : Nat := 1
abbrev τ : Topo := Topo.v7x

variable {F : FTy → Type} [FloatOps F]

abbrev main_while0_count : Scf.Loop 32 := ⟨0#32, 52#32, 1#32⟩
-- ==== Proof.Ref.Keeps.lean ====
/-
  The reference's run, read at the arrays that its loop does not carry: what no operation writes is at the end as it was at
  the launch, and what only the operations before the loop write is after the loop as it was before it.
-/
module

public import proofs.«01_k».proof.Proof.Gen.ReferenceIdeal.Run

@[expose] public section

set_option maxRecDepth 16384

noncomputable section

namespace Cert.Ref

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The arrays written before the loop. -/
abbrev preW : List (Ref sig .tc) := hostOps0_W ++ hostOps0_1_W ++ hostOps0_2_W ++ hostOps0_3_W ++ hostOps0_4_W ++ hostOps0_5_W ++ hostOps0_6_W

/-- The arrays a trip and its test write. -/
abbrev tripW : List (Ref sig .tc) := condOps_W ++ while0Ops0_W ++ while0Ops0_1_W ++ while0Ops0_2_W ++ while0Ops0_3_W ++ while0Ops0_4_W

/-- The arrays written after the loop. -/
abbrev postW : List (Ref sig .tc) :=
  [main_v31, main_v32, main_v33, main_v34, main_v35, main_v36, main_cst_5, main_v37, main_v38, main_cst_6, main_v39, main_v40, main_v41,
    main_call6_v0, main_v42]

/-- The operations after the loop write only those. -/
theorem post_writes : (hostOps0_7 ++ hostOps0_8 : List (HloOp τ sig (Elt F))).Forall fun op =>
    op.writes ⊆ (postW.map (Proc.devRef (τ := τ) .tc)).toFinset :=
  forall_writes_sub_of_map rfl

/-- The operations before the loop keep what they do not write. -/
theorem keep_pre (X : Valuation τ sig (Elt F)) (r : Ref sig .tc) (h : r ∉ preW) : afterL preI X (Proc.devRef .tc r) = X (Proc.devRef .tc r) := by
  simp only [preW, List.mem_append, not_or] at h
  obtain ⟨⟨⟨⟨⟨⟨h0, h1⟩, h2⟩, h3⟩, h4⟩, h5⟩, h6⟩ := h
  simp only [preI, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A trip keeps what it does not write. -/
theorem keep_trip (X : Valuation τ sig (Elt F)) (r : Ref sig .tc) (h : r ∉ tripW) :
    afterL bodyI (after condOps X) (Proc.devRef .tc r) = X (Proc.devRef .tc r) := by
  simp only [tripW, List.mem_append, not_or] at h
  obtain ⟨⟨⟨⟨⟨hc, h0⟩, h1⟩, h2⟩, h3⟩, h4⟩ := h
  simp only [bodyI, afterL_cons, afterL_nil]
  rw [after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

/-- The operations after the loop keep what they do not write. -/
theorem keep_post (X : Valuation τ sig (Elt F)) (r : Ref sig .tc) (h : r ∉ postW) : afterL postI X (Proc.devRef .tc r) = X (Proc.devRef .tc r) := by
  have := after_of_writes_sub (hostOps0_7 ++ hostOps0_8) X post_writes h
  rwa [after_append] at this

variable (m : (ℓ : Loc nD τ sig) → Buf (Elt F) ℓ)

/-- Any number of trips keeps what a trip does not write. -/
theorem keep_trips (c : Dev nD) (r : Ref sig .tc) (h : r ∉ tripW) : ∀ k, atK m k c (Proc.devRef .tc r) = entryContents preI m c (Proc.devRef .tc r)
  | 0 => rfl
  | k + 1 => (keep_trip (atK m k c) r h).trans (keep_trips c r h k)

/-- What the test after the last trip does not write, it keeps. -/
theorem keep_exit (c : Dev nD) (r : Ref sig .tc) (hc : r ∉ condOps_W) :
    after condOps (atK m 52 c) (Proc.devRef .tc r) = atK m 52 c (Proc.devRef .tc r) :=
  after_of_writes_sub _ _ condOps_writes hc

/-- What no operation writes is at the end as launched. -/
theorem keep (c : Dev nD) (r : Ref sig .tc) (h0 : r ∉ preW) (h1 : r ∉ tripW) (h2 : r ∉ postW) :
    finalContents condOps preI bodyI postI 52 m c (Proc.devRef .tc r) = m ((c.tc : Thread nD τ).loc r) :=
  (keep_post _ r h2).trans ((keep_exit m c r fun h => h1 (by simp only [tripW, List.mem_append]; tauto)).trans
    ((keep_trips m c r h1 52).trans (keep_pre _ r h0)))

/-- The argument arrays. -/
abbrev args : List (Ref sig .tc) :=
  [main_arg0, main_arg1, main_arg2, main_arg3, main_arg4, main_arg5, main_arg6, main_arg7, main_arg8, main_arg9, main_arg10, main_arg11]

/-- No argument is written. -/
theorem args_kept : ∀ a ∈ args, (a ∉ preW ∧ a ∉ tripW ∧ a ∉ postW) ∧ (Proc.devRef .tc a : DevRef τ sig).isScoped = false := by
  decide +kernel

/-- The arguments end as launched. -/
theorem keep_arg (c : Dev nD) (a : Ref sig .tc) (ha : a ∈ args) :
    finalContents condOps preI bodyI postI 52 m c (Proc.devRef .tc a) = m ((c.tc : Thread nD τ).loc a) :=
  have h := args_kept a ha
  keep m c a h.1.1 h.1.2.1 h.1.2.2

end Cert.Ref

end
-- ==== Proof.Run.GruState.lean ====
/-
  What one trip of the recurrent kernel's counted loop computes, and the state after `k` trips: the closed forms that the
  run of `cc0__gru_body` is stated over. Nothing here runs a program; the payloads are the printed ones.
-/
module

public import proofs.«01_k».proof.Proof.Gen.KernelIdeal
public import proofs.«01_k».proof.Proof.Gen.KernelIdeal.Skeleton
public import Idealize.ShloMosaic.Lib.VecWindow

@[expose] public section

noncomputable section

namespace Cert.Gru

open Idealize.ShloMosaic Idealize.ShloMosaic.TcCoe Cert.KernelIdeal Cert.KernelIdeal.Gen

variable {F : FTy → Type} [FloatOps F]

/-- The seven operands of the recurrent kernel: the slices with their row of ones, the three input-weight matrices with
    the bias column (reset, update, candidate), and the three hidden-weight matrices, the last with its bias column. -/
structure Ops (F : FTy → Type) where
  seq : Vec F S52x53x256 .bf16
  ir : Vec F S2704x53 .bf16
  iz : Vec F S2704x53 .bf16
  ig : Vec F S2704x53 .bf16
  hr : Vec F S2704x2704 .bf16
  hz : Vec F S2704x2704 .bf16
  hg : Vec F S2704x2705 .bf16

/-- The slice that trip `k` reads. -/
def slice (o : Ops F) (k : Fin k0_t1_loop.trips) : Vec F S1x53x256 .bf16 :=
  fun j => o.seq ((Rect.unit (s := S52x53x256) (k0_off1 k) S1x53x256.size (k0_off1_inb k)).toLoadRect.idx j)

/-- A block of 2704 rows over a row of ones: the layout in which a bias is one more column of the weights. -/
def withOnes (w : Vec F S2704x256 .f32) : Vec F S2705x256 .f32 :=
  VecWindow.put (s := S2705x256) (fun _ => Scalar.ofBits .f32 0x3F800000#32) ![0, 0] S2704x256.size w

/-- The hidden rows that one trip stores: the gates at slice `x`, from the hidden rows `h` and the flags `v`. -/
def newRows (o : Ops F) (x : Vec F S1x53x256 .bf16) (h : Vec F S2704x256 .f32) (v : Vec F S1x256 .f32) : FVec F S2704x256 .f32 :=
  k0_pay4 (k0_pay5 x) (k0_pay7 x v) (k0_pay10 (withOnes h)) (k0_pay11 (withOnes h)) (k0_pay12 (withOnes h))
    (k0_pay13 x (withOnes h) o.ir o.hr) o.ig o.hg o.iz o.hz

/-- The state: the hidden rows, and the flags of the piles that have met no empty slice. -/
abbrev St (F : FTy → Type) := Vec F S2704x256 .f32 × Vec F S1x256 .f32

/-- The state before the first trip: zeros, every flag one. -/
def start : St F := (k0_pay1, k0_pay3)

/-- One trip: the hidden rows are replaced, the flags are refreshed. -/
def trip (o : Ops F) (k : Fin k0_t1_loop.trips) (s : St F) : St F :=
  (newRows o (slice o k) s.1 s.2, k0_pay8 (slice o k) s.2)

/-- The state before trip `k`. -/
def state (o : Ops F) : ℕ → St F
  | 0 => start
  | k + 1 => if h : k < k0_t1_loop.trips then trip o ⟨k, h⟩ (state o k) else state o k

theorem state_succ (o : Ops F) (k : Fin k0_t1_loop.trips) : state o (k.val + 1) = trip o k (state o k.val) := dif_pos k.isLt

/-- The first trip exists. -/
theorem trips_pos : 0 < k0_t1_loop.trips := by decide +kernel

/-- The mask the first trip stores: whether the first slice has cards. -/
def mask (o : Ops F) : Vec F S1x256 .i32 := k0_pay9 (slice o ⟨0, trips_pos⟩)

/-- The condition of the mask's store holds on the first trip only. -/
theorem first_trip : ∀ k : Fin k0_t1_loop.trips,
    (Scalar.cmpi .ne (Scalar.extui (Scalar.cmpi .eq (Scf.iv 0#32 1#32 k) 0#32) : BitVec 32) 0#32 = 1#1) ↔ k.val = 0 := by
  decide +kernel

/-- A store of the rows over a buffer that holds rows over ones leaves the new rows over ones. -/
theorem read_rows {κ : Kind} {sp : Space} (v : View sig κ sp S2705x256 .f32) (f : v.ty.Contents (Elt F)) (h : Vec F S2704x256 .f32)
    (hf : v.read (Elt F) f = withOnes h) (w w' : Vec F S2704x256 .f32) (hw : w = w') :
    v.read (Elt F) (v.writes (Elt F) f [⟨Rect.unit (s := S2705x256) ![0, 0] S2704x256.size inb_S2705x256_S2704x256_0_0, w⟩])
      = withOnes w' := by
  subst hw
  refine (View.read_writes_cons_put v f inb_S2705x256_S2704x256_0_0 w [] rfl).trans ?_
  have e : v.read (Elt F) (v.writes (Elt F) f []) = withOnes h := hf
  rw [e]
  exact VecWindow.put_put_same (s := S2705x256) _ _ _ _ _

/-- The stores of some rows and of a row of ones under them leave those rows over ones, whatever was there. -/
theorem read_withOnes {κ : Kind} {sp : Space} (v : View sig κ sp S2705x256 .f32) (f : v.ty.Contents (Elt F))
    (u : Vec F S1x256 .f32) (hu : u = fun _ => Scalar.ofBits .f32 0x3F800000#32) (w : Vec F S2704x256 .f32) :
    v.read (Elt F) (v.writes (Elt F) f
        [⟨Rect.unit (s := S2705x256) ![2704, 0] S1x256.size inb_S2705x256_S1x256_2704_0, u⟩,
          ⟨Rect.unit (s := S2705x256) ![0, 0] S2704x256.size inb_S2705x256_S2704x256_0_0, w⟩])
      = withOnes w := by
  subst hu
  funext y
  have hy : (y (0 : Fin 2)).val < 2705 := (y (0 : Fin 2)).isLt
  rw [View.read_writes_cons_put (h := rfl), View.read_writes_cons_put (h := rfl)]
  have hy' : (y (1 : Fin 2)).val < 256 := (y (1 : Fin 2)).isLt
  unfold withOnes VecWindow.put
  dsimp only
  by_cases hr : (y (0 : Fin 2)).val < 2704
  · have h1 : ¬ ∀ a : Fin 2, (![2704, 0] : Fin 2 → ℕ) a ≤ (y a).val ∧ (y a).val < (![2704, 0] : Fin 2 → ℕ) a + S1x256.size a :=
      fun h => absurd (h 0).1 (Nat.not_le.mpr hr)
    have h2 : ∀ a : Fin 2, (![0, 0] : Fin 2 → ℕ) a ≤ (y a).val ∧ (y a).val < (![0, 0] : Fin 2 → ℕ) a + S2704x256.size a :=
      Fin.forall_fin_two.mpr ⟨⟨Nat.zero_le _, (Nat.zero_add 2704).symm ▸ hr⟩, ⟨Nat.zero_le _, (Nat.zero_add 256).symm ▸ hy'⟩⟩
    refine (dif_neg h1).trans ((dif_pos h2).trans (Eq.symm ?_))
    exact dif_pos h2
  · have h1 : ∀ a : Fin 2, (![2704, 0] : Fin 2 → ℕ) a ≤ (y a).val ∧ (y a).val < (![2704, 0] : Fin 2 → ℕ) a + S1x256.size a :=
      Fin.forall_fin_two.mpr ⟨⟨Nat.not_lt.mp hr, hy⟩, ⟨Nat.zero_le _, (Nat.zero_add 256).symm ▸ hy'⟩⟩
    have h2 : ¬ ∀ a : Fin 2, (![0, 0] : Fin 2 → ℕ) a ≤ (y a).val ∧ (y a).val < (![0, 0] : Fin 2 → ℕ) a + S2704x256.size a :=
      fun h => hr ((Nat.zero_add 2704) ▸ (h 0).2)
    refine (dif_pos h1).trans (Eq.symm ?_)
    exact dif_neg h2

end Cert.Gru

end
-- ==== Proof.Run.GruBody.lean ====
/-
  The run of `cc0__gru_body` on any staging buffers: the counted loop by an invariant, then the whole body. The loop's
  conditional store (the mask, on the first trip only) is decided per trip.
-/
module

public import proofs.«01_k».proof.Proof.Run.GruState
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.Gru

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD)
  (arg0 : Memref sig .tc .vmem S52x53x256 .bf16) (harg0 : arg0.IsWhole)
  (arg1 : Memref sig .tc .vmem S2704x53 .bf16) (harg1 : arg1.IsWhole)
  (arg2 : Memref sig .tc .vmem S2704x53 .bf16) (harg2 : arg2.IsWhole)
  (arg3 : Memref sig .tc .vmem S2704x53 .bf16) (harg3 : arg3.IsWhole)
  (arg4 : Memref sig .tc .vmem S2704x2704 .bf16) (harg4 : arg4.IsWhole)
  (arg5 : Memref sig .tc .vmem S2704x2704 .bf16) (harg5 : arg5.IsWhole)
  (arg6 : Memref sig .tc .vmem S2704x2705 .bf16) (harg6 : arg6.IsWhole)
  (arg7 : Memref sig .tc .vmem S2705x256 .f32) (harg7 : arg7.IsWhole)
  (arg8 : Memref sig .tc .vmem S1x256 .i32) (harg8 : arg8.IsWhole)
  (arg9 : Memref sig .tc .vmem S1x256 .f32) (harg9 : arg9.IsWhole)
  (o : Ops F)

/-- THE LOOP'S INVARIANT before trip `k`: the operands as entered, the hidden buffer and the flags at the state before
    `k`, and, once the first trip has run, the mask. -/
abbrev inv (k : ℕ) : sProp 𝕄 :=
  iprop(owns (c : Thread nD τ) arg0 fullShare o.seq ∗ owns (c : Thread nD τ) arg1 fullShare o.ir ∗ owns (c : Thread nD τ) arg2 fullShare o.iz
    ∗ owns (c : Thread nD τ) arg3 fullShare o.ig ∗ owns (c : Thread nD τ) arg4 fullShare o.hr ∗ owns (c : Thread nD τ) arg5 fullShare o.hz
    ∗ owns (c : Thread nD τ) arg6 fullShare o.hg ∗ owns (c : Thread nD τ) arg7 fullShare (withOnes (state o k).1)
    ∗ (∃ d, ⌜0 < k → d = mask o⌝ ∗ owns (c : Thread nD τ) arg8 fullShare d) ∗ owns (c : Thread nD τ) arg9 fullShare (state o k).2)

/-- ONE TRIP takes the invariant to the next. -/
theorem inv_step (k : Fin k0_t1_loop.trips) :
    inv c arg0 arg1 arg2 arg3 arg4 arg5 arg6 arg7 arg8 arg9 o k.val
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 k ())
          (fun _ => inv c arg0 arg1 arg2 arg3 arg4 arg5 arg6 arg7 arg8 arg9 o (k.val + 1)) := by
  unfold inv owns
  rw [state_succ]
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %hd, %f8, %h8, H8⟩, ⟨%f9, %h9, H9⟩⟩
  have e0 : arg0.view.readAt (Elt F) (Rect.unit (s := S52x53x256) (k0_off1 k) S1x53x256.size (k0_off1_inb k)).toLoadRect f0 = slice o k := by
    funext j; rw [View.readAt_apply, h0]; rfl
  have e1 := (View.readAt_full arg1.view f1 inb_S2704x53_S2704x53_0_0).trans h1
  have e2 := (View.readAt_full arg2.view f2 inb_S2704x53_S2704x53_0_0).trans h2
  have e3 := (View.readAt_full arg3.view f3 inb_S2704x53_S2704x53_0_0).trans h3
  have e4 := (View.readAt_full arg4.view f4 inb_S2704x2704_S2704x2704_0_0).trans h4
  have e5 := (View.readAt_full arg5.view f5 inb_S2704x2704_S2704x2704_0_0).trans h5
  have e6 := (View.readAt_full arg6.view f6 inb_S2704x2705_S2704x2705_0_0).trans h6
  have e7 := (View.readAt_full arg7.view f7 inb_S2705x256_S2705x256_0_0).trans h7
  have e9 := (View.readAt_full arg9.view f9 inb_S1x256_S1x256_0_0).trans h9
  unfold k0_t1_body
  simp only [k0_part1_eq_skeleton]
  unfold k0_part1_skel
  sl_exec
  sl_step
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]
  · iexists _; isplitr; swap; · iexact H7
    ipureintro
    refine read_rows arg7.view f7 _ h7 _ _ ?_
    rfl
  isplitl [H8]
  · iexists _; isplitr; swap
    · iexists _; isplitr; swap; · iexact H8
      ipureintro; rfl
    ipureintro
    intro _
    split
    · next hc =>
      obtain rfl : k = ⟨0, trips_pos⟩ := Fin.ext ((first_trip k).mp hc)
      refine (View.read_writes_full _ _ _ _ _).trans ?_
      rfl
    · next hc => exact h8.trans (hd (Nat.pos_of_ne_zero fun hk => hc ((first_trip k).mpr hk)))
  iexists _; isplitr; swap; · iexact H9
  ipureintro
  refine (View.read_writes_full _ _ _ _ _).trans ?_
  rw [trip, ← e0, ← e9]

set_option maxHeartbeats 1000000 in
/-- THE BODY: on whole staging buffers, the operands at `o` and the others at anything, it ends with the operands as they
    were, the hidden buffer at the rows (over ones) of the state after the last trip, and the mask of the first slice. -/
theorem body_run (E : PUnit → sProp 𝕄) :
    iprop(owns (c : Thread nD τ) arg0 fullShare o.seq ∗ owns (c : Thread nD τ) arg1 fullShare o.ir ∗ owns (c : Thread nD τ) arg2 fullShare o.iz
        ∗ owns (c : Thread nD τ) arg3 fullShare o.ig ∗ owns (c : Thread nD τ) arg4 fullShare o.hr ∗ owns (c : Thread nD τ) arg5 fullShare o.hz
        ∗ owns (c : Thread nD τ) arg6 fullShare o.hg ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg0 fullShare o.seq ∗ owns (c : Thread nD τ) arg1 fullShare o.ir ∗ owns (c : Thread nD τ) arg2 fullShare o.iz
            ∗ owns (c : Thread nD τ) arg3 fullShare o.ig ∗ owns (c : Thread nD τ) arg4 fullShare o.hr ∗ owns (c : Thread nD τ) arg5 fullShare o.hz
            ∗ owns (c : Thread nD τ) arg6 fullShare o.hg ∗ owns (c : Thread nD τ) arg7 fullShare (withOnes (state o k0_t1_loop.trips).1)
            ∗ owns (c : Thread nD τ) arg8 fullShare (mask o) ∗ (∃ d, owns (c : Thread nD τ) arg9 fullShare d)) -∗ E ⟨⟩))
      ⊢ wp frame (wpE (defs₀ (F := F)) Variants.none (c : Thread nD τ) none) Set.univ
          (cc0__gru_body (F := F) arg0 harg0 arg1 harg1 arg2 harg2 arg3 harg3 arg4 harg4 arg5 harg5 arg6 harg6 arg7 harg7 arg8 harg8 arg9 harg9) E := by
  simp only [cc0__gru_body_eq_skeleton]; unfold cc0__gru_body_skel
  iintro ⟨H0, H1, H2, H3, H4, H5, H6, ⟨%d7, H7⟩, ⟨%d8, H8⟩, ⟨%d9, H9⟩, Hk⟩
  unfold owns
  icases H7 with ⟨%f7, -, H7⟩
  icases H9 with ⟨%f9, -, H9⟩
  sl_exec
  iapply (Scf.wp_for_bind (lb := k0_t1_loop.lb) (ub := k0_t1_loop.ub) (st := k0_t1_loop.st) (hok := k0_t1_ok) (init := ())
    (I := fun k _ => inv c arg0 arg1 arg2 arg3 arg4 arg5 arg6 arg7 arg8 arg9 o k)
    (hbody := fun k _ => inv_step c arg0 harg0 arg1 harg1 arg2 harg2 arg3 harg3 arg4 harg4 arg5 harg5 arg6 harg6 arg7 harg7 arg8 harg8 arg9 harg9 o k))
    $$ [H0 H1 H2 H3 H4 H5 H6 H7 H8 H9] [Hk]
  · unfold inv owns
    iframe H0; iframe H1; iframe H2; iframe H3; iframe H4; iframe H5; iframe H6
    isplitl [H7]
    · iexists _; isplitr; swap; · iexact H7
      ipureintro
      exact read_withOnes arg7.view _ _ rfl _
    isplitl [H8]
    · iexists d8; isplitr; swap; · iexact H8
      ipureintro; exact fun h => absurd h (Nat.lt_irrefl 0)
    iexists _; isplitr; swap; · iexact H9
    ipureintro
    exact View.read_writes_full _ _ _ _ _
  · iintro %u Hinv
    sl_step
    iapply Hk
    unfold inv owns
    icases Hinv with ⟨H0, H1, H2, H3, H4, H5, H6, H7, ⟨%d, %hd, H8⟩, H9⟩
    obtain rfl := hd trips_pos
    iframe H0; iframe H1; iframe H2; iframe H3; iframe H4; iframe H5; iframe H6; iframe H7; iframe H8
    iexists _; iexact H9

end Body

end Cert.Gru

end
-- ==== Proof.Run.GruRegion.lean ====
/-
  The recurrent region of @main: its proof data over the closed forms of the body's run, and its body obligation.
-/
module

public import proofs.«01_k».proof.Proof.Gen.KernelIdeal.Launch
public import proofs.«01_k».proof.Proof.Gen.KernelIdeal.Points
public import proofs.«01_k».proof.Proof.Run.GruBody
public import Idealize.ShloMosaic.Lib.Pipeline.FrameBody
public import Idealize.ShloMosaic.Lib.Tactic

@[expose] public section

set_option maxRecDepth 16384

noncomputable section

namespace Cert.Run

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The block of window `w` at a point, read off the array the region is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The recurrent kernel's operands at a point. -/
def ops0 (c : Dev nD) (t : Fin cfg0.N) : Gru.Ops F where
  seq := blk0 V c 0 t
  ir := blk0 V c 1 t
  iz := blk0 V c 2 t
  ig := blk0 V c 3 t
  hr := blk0 V c 4 t
  hz := blk0 V c 5 t
  hg := blk0 V c 6 t

/-! The staging buffer of each window, and that each is a whole buffer. -/

abbrev st0_0 (t : Fin cfg0.N) : Memref sig .tc .vmem S52x53x256 .bf16 := win0_0.stage (cfg0.slots t 0)
abbrev wh0_0 (t : Fin cfg0.N) : (st0_0 t).IsWhole := hstage0_0 0
abbrev st0_1 (t : Fin cfg0.N) : Memref sig .tc .vmem S2704x53 .bf16 := win0_1.stage (cfg0.slots t 1)
abbrev wh0_1 (t : Fin cfg0.N) : (st0_1 t).IsWhole := hstage0_1 0
abbrev st0_2 (t : Fin cfg0.N) : Memref sig .tc .vmem S2704x53 .bf16 := win0_2.stage (cfg0.slots t 2)
abbrev wh0_2 (t : Fin cfg0.N) : (st0_2 t).IsWhole := hstage0_2 0
abbrev st0_3 (t : Fin cfg0.N) : Memref sig .tc .vmem S2704x53 .bf16 := win0_3.stage (cfg0.slots t 3)
abbrev wh0_3 (t : Fin cfg0.N) : (st0_3 t).IsWhole := hstage0_3 0
abbrev st0_4 (t : Fin cfg0.N) : Memref sig .tc .vmem S2704x2704 .bf16 := win0_4.stage (cfg0.slots t 4)
abbrev wh0_4 (t : Fin cfg0.N) : (st0_4 t).IsWhole := hstage0_4 0
abbrev st0_5 (t : Fin cfg0.N) : Memref sig .tc .vmem S2704x2704 .bf16 := win0_5.stage (cfg0.slots t 5)
abbrev wh0_5 (t : Fin cfg0.N) : (st0_5 t).IsWhole := hstage0_5 0
abbrev st0_6 (t : Fin cfg0.N) : Memref sig .tc .vmem S2704x2705 .bf16 := win0_6.stage (cfg0.slots t 6)
abbrev wh0_6 (t : Fin cfg0.N) : (st0_6 t).IsWhole := hstage0_6 0
abbrev st0_7 (t : Fin cfg0.N) : Memref sig .tc .vmem S2705x256 .f32 := win0_7.stage (cfg0.slots t 7)
abbrev wh0_7 (t : Fin cfg0.N) : (st0_7 t).IsWhole := hstage0_7 0
abbrev st0_8 (t : Fin cfg0.N) : Memref sig .tc .vmem S1x256 .i32 := win0_8.stage (cfg0.slots t 8)
abbrev wh0_8 (t : Fin cfg0.N) : (st0_8 t).IsWhole := hstage0_8 0

/-- The scratch buffer. -/
abbrev scr0 : Memref sig .tc .vmem S1x256 .f32 := Memref.whole cc0_scratch0

/-- The class invariant with the scratch buffer as a memref owned at some contents. -/
theorem inv0_eq (c : Dev nD) :
    (Pipeline.ΦA spec0 c : sProp 𝕄)
      = iprop(iprop((∃ d, owns (c : Thread nD τ) scr0 fullShare d)
          ∗ (∃ f : Buf (Elt F) ((c : Thread nD τ).loc cc1_stg0_0), ((c : Thread nD τ).loc cc1_stg0_0) ↦{fullShare} f)
          ∗ (∃ f : Buf (Elt F) ((c : Thread nD τ).loc cc1_stg1_0), ((c : Thread nD τ).loc cc1_stg1_0) ↦{fullShare} f)
          ∗ (∃ f : Buf (Elt F) ((c : Thread nD τ).loc cc1_stg2_0), ((c : Thread nD τ).loc cc1_stg2_0) ↦{fullShare} f)
          ∗ (∃ f : Buf (Elt F) ((c : Thread nD τ).loc cc1_stg3_0), ((c : Thread nD τ).loc cc1_stg3_0) ↦{fullShare} f)
          ∗ (∃ f : Buf (Elt F) ((c : Thread nD τ).loc cc1_stg4_0), ((c : Thread nD τ).loc cc1_stg4_0) ↦{fullShare} f)
          ∗ (∃ f : Buf (Elt F) ((c : Thread nD τ).loc cc1_stg5_0), ((c : Thread nD τ).loc cc1_stg5_0) ↦{fullShare} f)
          ∗ (∃ f : Buf (Elt F) ((c : Thread nD τ).loc cc1_stg6_0), ((c : Thread nD τ).loc cc1_stg6_0) ↦{fullShare} f)
          ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scr0, owns_whole]; rfl

/-- The region's proof data: the arrays as the region is entered, each input's buffer at its block after the body, and each
    output's buffer at the closed form of the body's run. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => Gru.withOnes (Gru.state (ops0 V c t) k0_t1_loop.trips).1
    | ⟨8, _⟩ => Gru.mask (ops0 V c t)
  Φ _ := Pipeline.ΦA spec0 c
  q _ := fullShare
  owed _ := 0

/-- The proof data's arrays are the entry contents. -/
theorem data0_A (c : Dev nD) (w : Fin cfg0.W) : (data0 V c).A w = V c (Pipeline.arrRef spec0 w) := by
  dsimp only [data0]

/-! What the body leaves in each buffer, and that each input's buffer holds its block before the body. -/

theorem after0_0 (c : Dev nD) (t : Fin cfg0.N) : (data0 V c).after 0 t = blk0 V c 0 t := by dsimp only [data0]
theorem after0_1 (c : Dev nD) (t : Fin cfg0.N) : (data0 V c).after 1 t = blk0 V c 1 t := by dsimp only [data0]
theorem after0_2 (c : Dev nD) (t : Fin cfg0.N) : (data0 V c).after 2 t = blk0 V c 2 t := by dsimp only [data0]
theorem after0_3 (c : Dev nD) (t : Fin cfg0.N) : (data0 V c).after 3 t = blk0 V c 3 t := by dsimp only [data0]
theorem after0_4 (c : Dev nD) (t : Fin cfg0.N) : (data0 V c).after 4 t = blk0 V c 4 t := by dsimp only [data0]
theorem after0_5 (c : Dev nD) (t : Fin cfg0.N) : (data0 V c).after 5 t = blk0 V c 5 t := by dsimp only [data0]
theorem after0_6 (c : Dev nD) (t : Fin cfg0.N) : (data0 V c).after 6 t = blk0 V c 6 t := by dsimp only [data0]
theorem after0_7 (c : Dev nD) (t : Fin cfg0.N) : (data0 V c).after 7 t = Gru.withOnes (Gru.state (ops0 V c t) k0_t1_loop.trips).1 := by dsimp only [data0]
theorem after0_8 (c : Dev nD) (t : Fin cfg0.N) : (data0 V c).after 8 t = Gru.mask (ops0 V c t) := by dsimp only [data0]
theorem before0_0 (c : Dev nD) (t : Fin cfg0.N) (d) : (data0 V c).before 0 t d = blk0 V c 0 t :=
  ((data0 V c).before_in_eq_fetched 0 rfl (fun _ => rfl) (fun _ _ _ => rfl)
    (fun t => by rw [after0_0]; unfold Dat.blockOf blk0; rw [data0_A]) t d).trans
    (by unfold Dat.fetched Dat.blockOf blk0; rw [data0_A]; rfl)
theorem before0_1 (c : Dev nD) (t : Fin cfg0.N) (d) : (data0 V c).before 1 t d = blk0 V c 1 t :=
  ((data0 V c).before_in_eq_fetched 1 rfl (fun _ => rfl) (fun _ _ _ => rfl)
    (fun t => by rw [after0_1]; unfold Dat.blockOf blk0; rw [data0_A]) t d).trans
    (by unfold Dat.fetched Dat.blockOf blk0; rw [data0_A]; rfl)
theorem before0_2 (c : Dev nD) (t : Fin cfg0.N) (d) : (data0 V c).before 2 t d = blk0 V c 2 t :=
  ((data0 V c).before_in_eq_fetched 2 rfl (fun _ => rfl) (fun _ _ _ => rfl)
    (fun t => by rw [after0_2]; unfold Dat.blockOf blk0; rw [data0_A]) t d).trans
    (by unfold Dat.fetched Dat.blockOf blk0; rw [data0_A]; rfl)
theorem before0_3 (c : Dev nD) (t : Fin cfg0.N) (d) : (data0 V c).before 3 t d = blk0 V c 3 t :=
  ((data0 V c).before_in_eq_fetched 3 rfl (fun _ => rfl) (fun _ _ _ => rfl)
    (fun t => by rw [after0_3]; unfold Dat.blockOf blk0; rw [data0_A]) t d).trans
    (by unfold Dat.fetched Dat.blockOf blk0; rw [data0_A]; rfl)
theorem before0_4 (c : Dev nD) (t : Fin cfg0.N) (d) : (data0 V c).before 4 t d = blk0 V c 4 t :=
  ((data0 V c).before_in_eq_fetched 4 rfl (fun _ => rfl) (fun _ _ _ => rfl)
    (fun t => by rw [after0_4]; unfold Dat.blockOf blk0; rw [data0_A]) t d).trans
    (by unfold Dat.fetched Dat.blockOf blk0; rw [data0_A]; rfl)
theorem before0_5 (c : Dev nD) (t : Fin cfg0.N) (d) : (data0 V c).before 5 t d = blk0 V c 5 t :=
  ((data0 V c).before_in_eq_fetched 5 rfl (fun _ => rfl) (fun _ _ _ => rfl)
    (fun t => by rw [after0_5]; unfold Dat.blockOf blk0; rw [data0_A]) t d).trans
    (by unfold Dat.fetched Dat.blockOf blk0; rw [data0_A]; rfl)
theorem before0_6 (c : Dev nD) (t : Fin cfg0.N) (d) : (data0 V c).before 6 t d = blk0 V c 6 t :=
  ((data0 V c).before_in_eq_fetched 6 rfl (fun _ => rfl) (fun _ _ _ => rfl)
    (fun t => by rw [after0_6]; unfold Dat.blockOf blk0; rw [data0_A]) t d).trans
    (by unfold Dat.fetched Dat.blockOf blk0; rw [data0_A]; rfl)

/-- What the body is entered with, window by window. -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d)))

/-- What the body leaves, window by window. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t)
    ∗ owns (c : Thread nD τ) (st0_8 t) fullShare ((data0 V c).after 8 t))

set_option maxHeartbeats 800000 in
/-- The body at a point: the invariant lends the scratch buffer and takes it back at some contents. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6]
  rw [show (data0 V c).Φ t.succ = (data0 V c).Φ t.castSucc from rfl,
    show (data0 V c).owesAt () t.succ = (data0 V c).owesAt () t.castSucc from rfl, after0_0, after0_1, after0_2, after0_3, after0_4, after0_5, after0_6, after0_7, after0_8]
  rw [show (data0 V c).Φ t.castSucc = Pipeline.ΦA spec0 c from rfl, inv0_eq]
  iintro ⟨⟨⟨S, R0, R1, R2, R3, R4, R5, R6, R7⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Gru.body_run c (st0_0 t) (wh0_0 t) (st0_1 t) (wh0_1 t) (st0_2 t) (wh0_2 t) (st0_3 t) (wh0_3 t) (st0_4 t) (wh0_4 t) (st0_5 t) (wh0_5 t) (st0_6 t) (wh0_6 t) (st0_7 t) (wh0_7 t) (st0_8 t) (wh0_8 t) scr0 (Memref.isWhole_whole _) (ops0 V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S]; · iexact S
  iintro ⟨H0, H1, H2, H3, H4, H5, H6, H7, H8, S⟩
  isplitl [S R0 R1 R2 R3 R4 R5 R6 R7 G]
  · isplitl [S R0 R1 R2 R3 R4 R5 R6 R7]
    · isplitl [S]; · iexact S
      isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline. -/
theorem obligation0 (c : Dev nD) : BodyObligation (data0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound0 V c t) rfl .rfl fun _ => .rfl

end Cert.Run

end
-- ==== Proof.Run.HeadBody.lean ====
/-
  The run of `cc1__head_body` on any staging buffers: the two layers of the head over the cards, the layer over the
  hidden state, and their mix on the columns that have cards.
-/
module

public import proofs.«01_k».proof.Proof.Run.GruState
public import Idealize.ShloMosaic.Lib.Pipeline.FrameBody
public import Idealize.ShloMosaic.Lib.Tactic

@[expose] public section

set_option maxRecDepth 16384

noncomputable section

namespace Cert.Head

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the head reads: the cards over a row of ones, the hidden rows over a row of ones, the mask, and the three
    weights with their bias columns. -/
structure Ops (F : FTy → Type) where
  cards : Vec F S677x256 .bf16
  hid : Vec F S2705x256 .f32
  mask : Vec F S1x256 .i32
  w1 : Vec F S2704x677 .bf16
  w2 : Vec F S1352x2705 .bf16
  wdp : Vec F S1352x2705 .bf16

/-- The first layer's rows over a row of ones. -/
def layer (o : Ops F) : Vec F S2705x256 .f32 := Gru.withOnes (k1_pay2 o.w1 o.cards)

/-- What the head stores. -/
def out (o : Ops F) : Vec F S1352x256 .f32 :=
  k1_pay1 (k1_pay4 o.w2 (layer o)) (k1_pay5 o.wdp o.hid) (k1_pay6 o.mask) (k1_pay7 o.w2 (layer o)) k1_pay8

section Body

variable (c : Dev nD)
  (arg0 : Memref sig .tc .vmem S677x256 .bf16) (harg0 : arg0.IsWhole)
  (arg1 : Memref sig .tc .vmem S2705x256 .f32) (harg1 : arg1.IsWhole)
  (arg2 : Memref sig .tc .vmem S1x256 .i32) (harg2 : arg2.IsWhole)
  (arg3 : Memref sig .tc .vmem S2704x677 .bf16) (harg3 : arg3.IsWhole)
  (arg4 : Memref sig .tc .vmem S1352x2705 .bf16) (harg4 : arg4.IsWhole)
  (arg5 : Memref sig .tc .vmem S1352x2705 .bf16) (harg5 : arg5.IsWhole)
  (arg6 : Memref sig .tc .vmem S1352x256 .f32) (harg6 : arg6.IsWhole)
  (arg7 : Memref sig .tc .vmem S2705x256 .f32) (harg7 : arg7.IsWhole)
  (o : Ops F)

/-- THE BODY: on whole staging buffers, the operands at `o` and the others at anything, it ends with the operands as they
    were and the output at `out o`. -/
theorem body_run (E : PUnit → sProp 𝕄) :
    iprop(owns (c : Thread nD τ) arg0 fullShare o.cards ∗ owns (c : Thread nD τ) arg1 fullShare o.hid ∗ owns (c : Thread nD τ) arg2 fullShare o.mask
        ∗ owns (c : Thread nD τ) arg3 fullShare o.w1 ∗ owns (c : Thread nD τ) arg4 fullShare o.w2 ∗ owns (c : Thread nD τ) arg5 fullShare o.wdp
        ∗ (∃ d, owns (c : Thread nD τ) arg6 fullShare d) ∗ (∃ d, owns (c : Thread nD τ) arg7 fullShare d)
        ∗ (iprop(owns (c : Thread nD τ) arg0 fullShare o.cards ∗ owns (c : Thread nD τ) arg1 fullShare o.hid ∗ owns (c : Thread nD τ) arg2 fullShare o.mask
            ∗ owns (c : Thread nD τ) arg3 fullShare o.w1 ∗ owns (c : Thread nD τ) arg4 fullShare o.w2 ∗ owns (c : Thread nD τ) arg5 fullShare o.wdp
            ∗ owns (c : Thread nD τ) arg6 fullShare (out o) ∗ (∃ d, owns (c : Thread nD τ) arg7 fullShare d)) -∗ E ⟨⟩))
      ⊢ wp frame (wpE (defs₀ (F := F)) Variants.none (c : Thread nD τ) none) Set.univ
          (cc1__head_body (F := F) arg0 harg0 arg1 harg1 arg2 harg2 arg3 harg3 arg4 harg4 arg5 harg5 arg6 harg6 arg7 harg7) E := by
  simp only [cc1__head_body_eq_skeleton]; unfold cc1__head_body_skel
  simp only [k1_part1_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  have e0 := (View.readAt_full arg0.view f0 inb_S677x256_S677x256_0_0).trans h0
  have e1 := (View.readAt_full arg1.view f1 inb_S2705x256_S2705x256_0_0).trans h1
  have e2 := (View.readAt_full arg2.view f2 inb_S1x256_S1x256_0_0).trans h2
  have e3 := (View.readAt_full arg3.view f3 inb_S2704x677_S2704x677_0_0).trans h3
  have e4 := (View.readAt_full arg4.view f4 inb_S1352x2705_S1352x2705_0_0).trans h4
  have e5 := (View.readAt_full arg5.view f5 inb_S1352x2705_S1352x2705_0_0).trans h5
  sl_exec
  sl_step
  iapply Hk
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists _; isplitr; swap; · iexact H6
    ipureintro
    refine (View.read_writes_full _ _ _ _ _).trans ?_
    have e : body_run.sl.v16 c arg7 o = layer o :=
      (View.readAt_full arg7.view _ inb_S2705x256_S2705x256_0_0).trans (Gru.read_withOnes arg7.view _ _ rfl _)
    unfold body_run.sl.r body_run.sl.r_3
    rw [e]
    rfl
  iexists _; iexists _; isplitr; swap; · iexact H7
  ipureintro; rfl

end Body

end Cert.Head

end
-- ==== Proof.Run.HeadRegion.lean ====
/-
  The head region of @main: its proof data over the closed form of the body's run, and its body obligation.
-/
module

public import proofs.«01_k».proof.Proof.Gen.KernelIdeal.Launch
public import proofs.«01_k».proof.Proof.Gen.KernelIdeal.Points
public import proofs.«01_k».proof.Proof.Run.HeadBody
public import Idealize.ShloMosaic.Lib.Pipeline.FrameBody
public import Idealize.ShloMosaic.Lib.Tactic

@[expose] public section

set_option maxRecDepth 16384

noncomputable section

namespace Cert.Run

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The block of window `w` at a point, read off the array the region is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The head's operands at a point. -/
def ops1 (c : Dev nD) (t : Fin cfg1.N) : Head.Ops F where
  cards := blk1 V c 0 t
  hid := blk1 V c 1 t
  mask := blk1 V c 2 t
  w1 := blk1 V c 3 t
  w2 := blk1 V c 4 t
  wdp := blk1 V c 5 t

/-! The staging buffer of each window, and that each is a whole buffer. -/

abbrev st1_0 (t : Fin cfg1.N) : Memref sig .tc .vmem S677x256 .bf16 := win1_0.stage (cfg1.slots t 0)
abbrev wh1_0 (t : Fin cfg1.N) : (st1_0 t).IsWhole := hstage1_0 0
abbrev st1_1 (t : Fin cfg1.N) : Memref sig .tc .vmem S2705x256 .f32 := win1_1.stage (cfg1.slots t 1)
abbrev wh1_1 (t : Fin cfg1.N) : (st1_1 t).IsWhole := hstage1_1 0
abbrev st1_2 (t : Fin cfg1.N) : Memref sig .tc .vmem S1x256 .i32 := win1_2.stage (cfg1.slots t 2)
abbrev wh1_2 (t : Fin cfg1.N) : (st1_2 t).IsWhole := hstage1_2 0
abbrev st1_3 (t : Fin cfg1.N) : Memref sig .tc .vmem S2704x677 .bf16 := win1_3.stage (cfg1.slots t 3)
abbrev wh1_3 (t : Fin cfg1.N) : (st1_3 t).IsWhole := hstage1_3 0
abbrev st1_4 (t : Fin cfg1.N) : Memref sig .tc .vmem S1352x2705 .bf16 := win1_4.stage (cfg1.slots t 4)
abbrev wh1_4 (t : Fin cfg1.N) : (st1_4 t).IsWhole := hstage1_4 0
abbrev st1_5 (t : Fin cfg1.N) : Memref sig .tc .vmem S1352x2705 .bf16 := win1_5.stage (cfg1.slots t 5)
abbrev wh1_5 (t : Fin cfg1.N) : (st1_5 t).IsWhole := hstage1_5 0
abbrev st1_6 (t : Fin cfg1.N) : Memref sig .tc .vmem S1352x256 .f32 := win1_6.stage (cfg1.slots t 6)
abbrev wh1_6 (t : Fin cfg1.N) : (st1_6 t).IsWhole := hstage1_6 0

/-- The scratch buffer. -/
abbrev scr1 : Memref sig .tc .vmem S2705x256 .f32 := Memref.whole cc1_scratch0

/-- The class invariant with the scratch buffer as a memref owned at some contents. -/
theorem inv1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_scratch0), ((c : Thread nD τ).loc cc0_scratch0) ↦{fullShare} f) ∗ (∃ d, owns (c : Thread nD τ) scr1 fullShare d)) ∗ (∃ r, prngReg c r)) := by
  unfold Pipeline.ΦA; rw [scopedRest1_eq]; simp only [scr1, owns_whole]; rfl

/-- The region's proof data: the arrays as the region is entered, each input's buffer at its block after the body, and each
    output's buffer at the closed form of the body's run. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => Head.out (ops1 V c t)
  Φ _ := Pipeline.ΦA spec1 c
  q _ := fullShare
  owed _ := 0

/-- The proof data's arrays are the entry contents. -/
theorem data1_A (c : Dev nD) (w : Fin cfg1.W) : (data1 V c).A w = V c (Pipeline.arrRef spec1 w) := by
  dsimp only [data1]

/-! What the body leaves in each buffer, and that each input's buffer holds its block before the body. -/

theorem after1_0 (c : Dev nD) (t : Fin cfg1.N) : (data1 V c).after 0 t = blk1 V c 0 t := by dsimp only [data1]
theorem after1_1 (c : Dev nD) (t : Fin cfg1.N) : (data1 V c).after 1 t = blk1 V c 1 t := by dsimp only [data1]
theorem after1_2 (c : Dev nD) (t : Fin cfg1.N) : (data1 V c).after 2 t = blk1 V c 2 t := by dsimp only [data1]
theorem after1_3 (c : Dev nD) (t : Fin cfg1.N) : (data1 V c).after 3 t = blk1 V c 3 t := by dsimp only [data1]
theorem after1_4 (c : Dev nD) (t : Fin cfg1.N) : (data1 V c).after 4 t = blk1 V c 4 t := by dsimp only [data1]
theorem after1_5 (c : Dev nD) (t : Fin cfg1.N) : (data1 V c).after 5 t = blk1 V c 5 t := by dsimp only [data1]
theorem after1_6 (c : Dev nD) (t : Fin cfg1.N) : (data1 V c).after 6 t = Head.out (ops1 V c t) := by dsimp only [data1]
theorem before1_0 (c : Dev nD) (t : Fin cfg1.N) (d) : (data1 V c).before 0 t d = blk1 V c 0 t :=
  ((data1 V c).before_in_eq_fetched 0 rfl (fun _ => rfl) (fun _ _ _ => rfl)
    (fun t => by rw [after1_0]; unfold Dat.blockOf blk1; rw [data1_A]) t d).trans
    (by unfold Dat.fetched Dat.blockOf blk1; rw [data1_A]; rfl)
theorem before1_1 (c : Dev nD) (t : Fin cfg1.N) (d) : (data1 V c).before 1 t d = blk1 V c 1 t :=
  ((data1 V c).before_in_eq_fetched 1 rfl (fun _ => rfl) (fun _ _ _ => rfl)
    (fun t => by rw [after1_1]; unfold Dat.blockOf blk1; rw [data1_A]) t d).trans
    (by unfold Dat.fetched Dat.blockOf blk1; rw [data1_A]; rfl)
theorem before1_2 (c : Dev nD) (t : Fin cfg1.N) (d) : (data1 V c).before 2 t d = blk1 V c 2 t :=
  ((data1 V c).before_in_eq_fetched 2 rfl (fun _ => rfl) (fun _ _ _ => rfl)
    (fun t => by rw [after1_2]; unfold Dat.blockOf blk1; rw [data1_A]) t d).trans
    (by unfold Dat.fetched Dat.blockOf blk1; rw [data1_A]; rfl)
theorem before1_3 (c : Dev nD) (t : Fin cfg1.N) (d) : (data1 V c).before 3 t d = blk1 V c 3 t :=
  ((data1 V c).before_in_eq_fetched 3 rfl (fun _ => rfl) (fun _ _ _ => rfl)
    (fun t => by rw [after1_3]; unfold Dat.blockOf blk1; rw [data1_A]) t d).trans
    (by unfold Dat.fetched Dat.blockOf blk1; rw [data1_A]; rfl)
theorem before1_4 (c : Dev nD) (t : Fin cfg1.N) (d) : (data1 V c).before 4 t d = blk1 V c 4 t :=
  ((data1 V c).before_in_eq_fetched 4 rfl (fun _ => rfl) (fun _ _ _ => rfl)
    (fun t => by rw [after1_4]; unfold Dat.blockOf blk1; rw [data1_A]) t d).trans
    (by unfold Dat.fetched Dat.blockOf blk1; rw [data1_A]; rfl)
theorem before1_5 (c : Dev nD) (t : Fin cfg1.N) (d) : (data1 V c).before 5 t d = blk1 V c 5 t :=
  ((data1 V c).before_in_eq_fetched 5 rfl (fun _ => rfl) (fun _ _ _ => rfl)
    (fun t => by rw [after1_5]; unfold Dat.blockOf blk1; rw [data1_A]) t d).trans
    (by unfold Dat.fetched Dat.blockOf blk1; rw [data1_A]; rfl)

/-- What the body is entered with, window by window. -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d)))

/-- What the body leaves, window by window. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t))

set_option maxHeartbeats 800000 in
/-- The body at a point: the invariant lends the scratch buffer and takes it back at some contents. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (data1 V c).Φ t.succ = (data1 V c).Φ t.castSucc from rfl,
    show (data1 V c).owesAt () t.succ = (data1 V c).owesAt () t.castSucc from rfl, after1_0, after1_1, after1_2, after1_3, after1_4, after1_5, after1_6]
  rw [show (data1 V c).Φ t.castSucc = Pipeline.ΦA spec1 c from rfl, inv1_eq]
  iintro ⟨⟨⟨R0, R1, R2, R3, R4, R5, R6, R7, R8, R9, S⟩, G⟩, O, ⟨%d0, H0⟩, ⟨%d1, H1⟩, ⟨%d2, H2⟩, ⟨%d3, H3⟩, ⟨%d4, H4⟩, ⟨%d5, H5⟩, ⟨%d6, H6⟩⟩
  iapply (Head.body_run c (st1_0 t) (wh1_0 t) (st1_1 t) (wh1_1 t) (st1_2 t) (wh1_2 t) (st1_3 t) (wh1_3 t) (st1_4 t) (wh1_4 t) (st1_5 t) (wh1_5 t) (st1_6 t) (wh1_6 t) scr1 (Memref.isWhole_whole _) (ops1 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S]; · iexact S
  iintro ⟨H0, H1, H2, H3, H4, H5, H6, S⟩
  isplitl [R0 R1 R2 R3 R4 R5 R6 R7 R8 R9 S G]
  · isplitl [R0 R1 R2 R3 R4 R5 R6 R7 R8 R9 S]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact S
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  iexact H6

/-- The body obligation of the pipeline. -/
theorem obligation1 (c : Dev nD) : BodyObligation (data1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound1 V c t) rfl .rfl fun _ => .rfl

end Cert.Run

end
-- ==== Proof.Run.Launch.lean ====
/-
  The run of @main: its stretches of host operations and its two regions in order, the buffers at each boundary, and what
  every unscoped buffer holds at the end.
-/
module

public import proofs.«01_k».proof.Proof.Run.GruRegion
public import proofs.«01_k».proof.Proof.Run.HeadRegion
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Run

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays of @main. -/
abbrev argRefs : List (Ref sig .tc) := [main_arg0, main_arg1, main_arg2, main_arg3, main_arg4, main_arg5, main_arg6, main_arg7, main_arg8, main_arg9, main_arg10, main_arg11]

/-- Stretch 0 allocates no buffer. -/
theorem fresh0 : (hostOps0 : List (HloOp τ sig (Elt F))).Forall fun op => op.fresh = ∅ := by
  simp only [List.Forall]; repeat' constructor
/-- The arrays stretch 0 writes, in order. -/
abbrev writes0 : List (Ref sig .tc) := [main_v0, main_v1, main_cst, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32]
/-- Stretch 0 writes only those arrays. -/
theorem writes0_sub : (hostOps0 : List (HloOp τ sig (Elt F))).Forall fun op => op.writes ⊆ (writes0.map (Proc.devRef (τ := τ) .tc)).toFinset :=
  StableHlo.forall_writes_sub_of_map rfl
/-- Stretch 0 writes no argument. -/
theorem args_ops0 : ∀ a ∈ argRefs, a ∉ writes0 := ListAll.forall_mem_of_all_decide (by decide +kernel)

/-- Stretch 1 allocates no buffer. -/
theorem fresh1 : (hostOps1 : List (HloOp τ sig (Elt F))).Forall fun op => op.fresh = ∅ := by
  simp only [List.Forall]; repeat' constructor
/-- The arrays stretch 1 writes, in order. -/
abbrev writes1 : List (Ref sig .tc) := [main_v34, main_v35, main_cst_0, main_v36, main_v37, main_v38, main_v39, main_v40, main_v41, main_v42, main_v43, main_v44, main_v45, main_v46, main_v47]
/-- Stretch 1 writes only those arrays. -/
theorem writes1_sub : (hostOps1 : List (HloOp τ sig (Elt F))).Forall fun op => op.writes ⊆ (writes1.map (Proc.devRef (τ := τ) .tc)).toFinset :=
  StableHlo.forall_writes_sub_of_map rfl
/-- Stretch 1 writes no argument. -/
theorem args_ops1 : ∀ a ∈ argRefs, a ∉ writes1 := ListAll.forall_mem_of_all_decide (by decide +kernel)

/-- Stretch 2 allocates no buffer. -/
theorem fresh2 : (hostOps2 : List (HloOp τ sig (Elt F))).Forall fun op => op.fresh = ∅ := by
  simp only [List.Forall]; repeat' constructor
/-- The arrays stretch 2 writes, in order. -/
abbrev writes2 : List (Ref sig .tc) := [main_v49]
/-- Stretch 2 writes only those arrays. -/
theorem writes2_sub : (hostOps2 : List (HloOp τ sig (Elt F))).Forall fun op => op.writes ⊆ (writes2.map (Proc.devRef (τ := τ) .tc)).toFinset :=
  StableHlo.forall_writes_sub_of_map rfl
/-- Stretch 2 writes no argument. -/
theorem args_ops2 : ∀ a ∈ argRefs, a ∉ writes2 := ListAll.forall_mem_of_all_decide (by decide +kernel)

/-- The buffers after the launch. -/
abbrev W0 : Dev nD → Valuation τ sig (Elt F) := fun c b => (s₀ m ρ).mem ((c : Dev nD), b)
/-- The arguments are as launched after the launch. -/
theorem W0_args (c : Dev nD) : ∀ a ∈ argRefs, W0 m ρ c (Proc.devRef .tc a) = m ((c : Thread nD τ).loc a) := fun _ _ => rfl
/-- The buffers after the stretch before the recurrent region. -/
abbrev W1 : Dev nD → Valuation τ sig (Elt F) := fun c => StableHlo.after hostOps0 (W0 m ρ c)
/-- What the stretch before the recurrent region does not write, it keeps. -/
theorem W1_of (c : Dev nD) (r : Ref sig .tc) (h : r ∉ writes0) : W1 m ρ c (Proc.devRef .tc r) = W0 m ρ c (Proc.devRef .tc r) :=
  StableHlo.after_of_writes_sub hostOps0 _ writes0_sub h
/-- The arguments are as launched after the stretch before the recurrent region. -/
theorem W1_args (c : Dev nD) : ∀ a ∈ argRefs, W1 m ρ c (Proc.devRef .tc a) = m ((c : Thread nD τ).loc a) :=
  fun a ha => (W1_of m ρ c a (args_ops0 a ha)).trans (W0_args m ρ c a ha)
/-- The same, at the TensorCore's references. -/
abbrev V1 : (c : Dev nD) → (b : Ref sig .tc) → Buf (Elt F) ((c : Thread nD τ).loc b) := fun c b => W1 m ρ c b
/-- The buffers after the recurrent region. -/
def W2 (c : Dev nD) : Valuation τ sig (Elt F) :=
  Pipeline.withArrays spec0 c (W1 m ρ c) fun w => (data0 (V1 m ρ) c).arrAt w cfg0.N
/-- The arrays of region 0 after it. -/
theorem W2_arr (c : Dev nD) (w : Fin cfg0.W) :
    W2 m ρ c (Proc.devRef .tc (Pipeline.arrRef spec0 w)) = (data0 (V1 m ρ) c).arrAt w cfg0.N := by
  unfold W2; exact Pipeline.withArrays_arr spec0 launch0.win.arr_inj c _ _ w
/-- An array of no window of region 0 is kept by it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What the recurrent region does not write, it keeps. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((data0 (V1 m ρ) c).arrAt_in w (h w rfl) _).trans (data0_A (V1 m ρ) c w))
  · exact W2_of_ne m ρ c r fun w e => hw ⟨w, e⟩
/-- An argument among the arrays of region 0 is an input. -/
theorem argsIn0 : ∀ a ∈ argRefs, ∀ w : Fin cfg0.W, Pipeline.arrRef spec0 w = a → (cfg0.win w).isOut = false :=
  ListAll.forall_mem_of_all_decide (by decide +kernel)
/-- The arguments are as launched after the recurrent region. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, at the TensorCore's references. -/
abbrev V2 : (c : Dev nD) → (b : Ref sig .tc) → Buf (Elt F) ((c : Thread nD τ).loc b) := fun c b => W2 m ρ c b
/-- Region 0 leaves its arrays at what the pipeline leaves. -/
theorem hF0 (c : Dev nD) (w : Fin cfg0.W) : (data0 (V1 m ρ) c).arrAt w cfg0.N = V2 m ρ c (Pipeline.arrRef spec0 w) :=
  (W2_arr m ρ c w).symm
/-- Region 0 leaves the other buffers alone. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the stretch between the regions. -/
abbrev W3 : Dev nD → Valuation τ sig (Elt F) := fun c => StableHlo.after hostOps1 (W2 m ρ c)
/-- What the stretch between the regions does not write, it keeps. -/
theorem W3_of (c : Dev nD) (r : Ref sig .tc) (h : r ∉ writes1) : W3 m ρ c (Proc.devRef .tc r) = W2 m ρ c (Proc.devRef .tc r) :=
  StableHlo.after_of_writes_sub hostOps1 _ writes1_sub h
/-- The arguments are as launched after the stretch between the regions. -/
theorem W3_args (c : Dev nD) : ∀ a ∈ argRefs, W3 m ρ c (Proc.devRef .tc a) = m ((c : Thread nD τ).loc a) :=
  fun a ha => (W3_of m ρ c a (args_ops1 a ha)).trans (W2_args m ρ c a ha)
/-- The same, at the TensorCore's references. -/
abbrev V3 : (c : Dev nD) → (b : Ref sig .tc) → Buf (Elt F) ((c : Thread nD τ).loc b) := fun c b => W3 m ρ c b
/-- The buffers after the head region. -/
def W4 (c : Dev nD) : Valuation τ sig (Elt F) :=
  Pipeline.withArrays spec1 c (W3 m ρ c) fun w => (data1 (V3 m ρ) c).arrAt w cfg1.N
/-- The arrays of region 1 after it. -/
theorem W4_arr (c : Dev nD) (w : Fin cfg1.W) :
    W4 m ρ c (Proc.devRef .tc (Pipeline.arrRef spec1 w)) = (data1 (V3 m ρ) c).arrAt w cfg1.N := by
  unfold W4; exact Pipeline.withArrays_arr spec1 launch1.win.arr_inj c _ _ w
/-- An array of no window of region 1 is kept by it. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What the head region does not write, it keeps. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((data1 (V3 m ρ) c).arrAt_in w (h w rfl) _).trans (data1_A (V3 m ρ) c w))
  · exact W4_of_ne m ρ c r fun w e => hw ⟨w, e⟩
/-- An argument among the arrays of region 1 is an input. -/
theorem argsIn1 : ∀ a ∈ argRefs, ∀ w : Fin cfg1.W, Pipeline.arrRef spec1 w = a → (cfg1.win w).isOut = false :=
  ListAll.forall_mem_of_all_decide (by decide +kernel)
/-- The arguments are as launched after the head region. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same, at the TensorCore's references. -/
abbrev V4 : (c : Dev nD) → (b : Ref sig .tc) → Buf (Elt F) ((c : Thread nD τ).loc b) := fun c b => W4 m ρ c b
/-- Region 1 leaves its arrays at what the pipeline leaves. -/
theorem hF1 (c : Dev nD) (w : Fin cfg1.W) : (data1 (V3 m ρ) c).arrAt w cfg1.N = V4 m ρ c (Pipeline.arrRef spec1 w) :=
  (W4_arr m ρ c w).symm
/-- Region 1 leaves the other buffers alone. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers after the last stretch. -/
abbrev W5 : Dev nD → Valuation τ sig (Elt F) := fun c => StableHlo.after hostOps2 (W4 m ρ c)
/-- What the last stretch does not write, it keeps. -/
theorem W5_of (c : Dev nD) (r : Ref sig .tc) (h : r ∉ writes2) : W5 m ρ c (Proc.devRef .tc r) = W4 m ρ c (Proc.devRef .tc r) :=
  StableHlo.after_of_writes_sub hostOps2 _ writes2_sub h
/-- The arguments are as launched after the last stretch. -/
theorem W5_args (c : Dev nD) : ∀ a ∈ argRefs, W5 m ρ c (Proc.devRef .tc a) = m ((c : Thread nD τ).loc a) :=
  fun a ha => (W5_of m ρ c a (args_ops2 a ha)).trans (W4_args m ρ c a ha)

/-- No pipeline has a prefetched table. -/
abbrev adm : (p : Fin 2) → (pcfgs (F := F) p).Adm := fun p => (cfgs p).toPCfg_adm
/-- The proof data of the two pipelines, each at its region's entry. -/
def pdata : (p : Fin 2) → (c : Dev nD) → Dat τ (Elt F) Unit ℕ (UR sig nD τ) ℕ (Pipeline.pin (pcfgs (F := F)) adm p) c
  | ⟨0, _⟩ => fun c => data0 (V1 m ρ) c
  | ⟨1, _⟩ => fun c => data1 (V3 m ρ) c
abbrev 𝒱₀ : Variants := Variants.none
/-- No core owes another anything. -/
abbrev L : GSem nD τ sig → Finset Unit := fun _ => ∅
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment between its two boundaries. -/
def reg0 : Pipeline.RegionSeg (pcfgs (F := F)) adm (pdata m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdata m ρ) launch0.win launch0.arr_whole c
      ((pdata m ρ 0 c).share_full fun _ => rfl) (V1 m ρ c) (data0_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdata m ρ) ((pdata m ρ 0 c).share_full fun _ => rfl)
      (V1 m ρ c) (V2 m ρ c) ((pdata m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment between its two boundaries. -/
def reg1 : Pipeline.RegionSeg (pcfgs (F := F)) adm (pdata m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdata m ρ) launch1.win launch1.arr_whole c
      ((pdata m ρ 1 c).share_full fun _ => rfl) (V3 m ρ c) (data1_A (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdata m ρ) ((pdata m ρ 1 c).share_full fun _ => rfl)
      (V3 m ρ c) (V4 m ρ c) ((pdata m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments. -/
abbrev segs : List (Pipeline.Seg (pcfgs (F := F)) adm (pdata m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)) ]
/-- @main is the run of its segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

set_option backward.isDefEq.respectTransparency.types false in
/-- THE RUN: from any memory with zero counters every weakly fair execution of @main terminates without fault, with every
    unscoped buffer at the last boundary's contents and every counter zero. -/
theorem run : θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W5 m ρ c (Proc.devRef .tc b))
      ∧ r.2.sem = fun _ => 0) :=
  Pipeline.θ_run_regions_kit_sems (pcfgs (F := F)) adm (pdata m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b hb), funext fun g => hz g (.inr (no_unscoped g.2))⟩)

/-- The frame: the arguments end as launched, every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h =>
    have e : ∀ (c : Dev nD) (a : Ref sig .tc), a ∈ argRefs → ¬ (Proc.devRef .tc a : DevRef τ sig).isScoped →
        r.2.mem ((c.tc : Thread nD τ).loc a) = m ((c.tc : Thread nD τ).loc a) :=
      fun c a ha hb => (h.1 c a hb).trans (W5_args m ρ c a ha)
    ⟨fun c => ⟨e c main_arg0 (by decide) (by decide), e c main_arg1 (by decide) (by decide), e c main_arg2 (by decide) (by decide), e c main_arg3 (by decide) (by decide), e c main_arg4 (by decide) (by decide), e c main_arg5 (by decide) (by decide), e c main_arg6 (by decide) (by decide), e c main_arg7 (by decide) (by decide), e c main_arg8 (by decide) (by decide), e c main_arg9 (by decide) (by decide), e c main_arg10 (by decide) (by decide), e c main_arg11 (by decide) (by decide)⟩, h.2⟩) (run m ρ)

end Cert.Run

end
-- ==== Proof.Frames.lean ====
/-
  The three frames: the kernel as printed, the kernel at exact reals, and the reference at exact reals each terminate
  without fault and leave their arguments and every semaphore as they found them.
-/
module

public import proofs.«01_k».proof.Defs
public import proofs.«01_k».proof.Proof.Gen.Kernel
public import proofs.«01_k».proof.Proof.Gen.Pre_every_pile_has_an_empty_slice
public import proofs.«01_k».proof.Proof.Ref.Keeps
public import Idealize.ShloMosaic.Lib.Quiescent
public import proofs.«01_k».proof.Proof.Run.Launch

@[expose] public section

noncomputable section

namespace Cert.Frames

open Idealize.ShloMosaic Idealize.ShloMosaic.TcCoe Idealize.SL.Sem

set_option maxRecDepth 100000 in
set_option maxHeartbeats 4000000 in
/-- The two printed kernels are one program: no operation was rewritten between them. -/
theorem main_eq (c : Dev Cert.KernelIdeal.nD) :
    @Cert.Kernel.main Bits _ Cert.Kernel.Gen.facts c = @Cert.KernelIdeal.main Bits _ Cert.KernelIdeal.Gen.facts c := by
  rfl

set_option maxRecDepth 100000 in
set_option maxHeartbeats 4000000 in
/-- The kernels' bodies are the same, label by label. -/
theorem bodies_eq : @Cert.Kernel.defs₀ Bits _ Cert.Kernel.Gen.facts = @Cert.KernelIdeal.defs₀ Bits _ Cert.KernelIdeal.Gen.facts := by
  refine congrArg (Defs.onTc (nD := 1)) ?_
  funext l a
  match l with
  | 0 => rfl
  | 1 => rfl

set_option maxRecDepth 100000 in
set_option maxHeartbeats 4000000 in
/-- The body tables are the same. -/
theorem defs_eq : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_eq

set_option maxRecDepth 100000 in
set_option maxHeartbeats 4000000 in
/-- The kernel as printed. -/
theorem kernel : @Cert.quiescent_Kernel Cert.Kernel.Gen.facts := fun m ρ _ => by
  rw [defs_eq, show @Cert.Kernel.main Bits _ Cert.Kernel.Gen.facts = @Cert.KernelIdeal.main Bits _ Cert.KernelIdeal.Gen.facts from funext main_eq]
  exact Cert.Run.frame (F := Bits) m ρ

/-- The kernel at exact reals. -/
theorem kernelIdeal : @Cert.quiescent_KernelIdeal Cert.KernelIdeal.Gen.facts := fun m ρ _ => Cert.Run.frame (F := Ideal) m ρ

/-- The same under the precondition. -/
theorem kernelIdeal_pre : @Cert.quiescent_KernelIdeal_pre_every_pile_has_an_empty_slice Cert.KernelIdeal.Gen.facts
    Cert.Pre_every_pile_has_an_empty_slice.Gen.facts := fun m ρ _ => Cert.Run.frame (F := Ideal) m ρ

/-! ## The reference -/

section Reference

open Cert.ReferenceIdeal Cert.ReferenceIdeal.Value Idealize.ShloMosaic.StableHlo

set_option maxRecDepth 16384

variable (m : (ℓ : Loc nD τ sig) → Buf (Elt Ideal) ℓ) (ρ : Dev nD → PrngReg)

/-- The reference's run: its arguments end as launched, its result at the fold's value, every counter zero. -/
theorem reference_run : θ_run (defs (F := Ideal)) (onTc (τ := τ) (main (F := Ideal))) ⟨m, fun _ => 0, ρ⟩ (fun r =>
    (∀ (c : Dev nD) (a : Ref sig .tc), a ∈ Ref.args → r.2.mem ((c.tc : Thread nD τ).loc a) = m ((c.tc : Thread nD τ).loc a))
    ∧ (∀ c : Dev nD, r.2.mem ((c.tc : Thread nD τ).loc main_v42) = finalContents condOps preI bodyI postI 52 m c (Proc.devRef .tc main_v42))
    ∧ r.2.sem = fun _ => 0) :=
  (θ_run (defs (F := Ideal)) _ _).mono (fun r h =>
    ⟨fun c a ha => (h c a (Ref.args_kept a ha).2).trans (Ref.keep_arg m c a ha), fun c => h c main_v42 rfl,
      sem_eq_zero_of_no_sems (by decide) r.2⟩) (run_fold m ρ)

/-- The reference at exact reals. -/
theorem referenceIdeal : @Cert.quiescent_ReferenceIdeal Cert.ReferenceIdeal.Gen.facts := fun m ρ _ =>
  (θ_run (defs (F := Ideal)) _ _).mono (fun r h =>
    have e := h.1
    ⟨fun c => ⟨e c main_arg0 (by decide), e c main_arg1 (by decide), e c main_arg2 (by decide), e c main_arg3 (by decide), e c main_arg4 (by decide), e c main_arg5 (by decide), e c main_arg6 (by decide), e c main_arg7 (by decide), e c main_arg8 (by decide), e c main_arg9 (by decide), e c main_arg10 (by decide), e c main_arg11 (by decide)⟩, h.2.2⟩) (reference_run m ρ)

/-- The same under the precondition. -/
theorem referenceIdeal_pre : @Cert.quiescent_ReferenceIdeal_pre_every_pile_has_an_empty_slice Cert.ReferenceIdeal.Gen.facts
    Cert.Pre_every_pile_has_an_empty_slice.Gen.facts := fun m ρ _ => referenceIdeal m ρ trivial

end Reference

end Cert.Frames

end
-- ==== Proof.Model.Scalars.lean ====
/-
  The scalar facts behind the equation, over the extended reals: the two forms of the sigmoid, the two forms of the
  convex combination that mixes the old hidden value and the candidate, a sum with one more term for the bias, and the
  test for an empty slice with and without the row of ones.
-/
module

public import Idealize.ShloMosaic.PureOps.Ideal.Laws
public import Idealize.ShloMosaic.Lib.IdealHost

@[expose] public section

noncomputable section

namespace Cert.Model

open Idealize.ShloMosaic

/-- The sigmoid in the form `1 / (1 + e^(-x))`. -/
def sigm (x : EReal) : EReal := Ideal.div 1 (1 + Ideal.exp (-x))

/-- The word of one half. -/
theorem half_word : Ideal.ofBits .f32 0x3F000000#32 = ((1 / 2 : ℝ) : EReal) := by
  simp [Ideal.ofBits, Ideal.ieee, -EReal.coe_mul]; norm_num

/-- The real identity: half of one plus the hyperbolic tangent at half the argument. -/
theorem real_sigm (r : ℝ) : 1 / 2 + 1 / 2 * Real.tanh (1 / 2 * r) = 1 / (1 + Real.exp (-r)) := by
  have e : Real.exp (-r) = Real.exp (-(1 / 2 * r)) * Real.exp (-(1 / 2 * r)) := by
    rw [← Real.exp_add]; congr 1; ring
  have p := Real.exp_pos (1 / 2 * r)
  have q := Real.exp_pos (-(1 / 2 * r))
  have pq : Real.exp (1 / 2 * r) * Real.exp (-(1 / 2 * r)) = 1 := by rw [← Real.exp_add]; simp
  rw [Real.tanh_eq_sinh_div_cosh, Real.sinh_eq, Real.cosh_eq, e]
  generalize Real.exp (1 / 2 * r) = u at *
  generalize Real.exp (-(1 / 2 * r)) = v at *
  field_simp
  nlinarith [pq]

/-- The reciprocal of one plus an exponential, at a real. -/
theorem sigm_coe (r : ℝ) : sigm (r : EReal) = ((1 / (1 + Real.exp (-r)) : ℝ) : EReal) := by
  have e : (1 : EReal) + Ideal.exp (-(r : EReal)) = ((1 + Real.exp (-r) : ℝ) : EReal) := by
    rw [← EReal.coe_neg]; rfl
  have hne : (1 + Real.exp (-r) : ℝ) ≠ 0 := (add_pos one_pos (Real.exp_pos _)).ne'
  unfold sigm
  rw [e]
  exact (Ideal.div_coe hne 1).trans (one_mul _)

theorem sigm_top : sigm ⊤ = 1 := by
  unfold sigm
  rw [EReal.neg_top]
  show Ideal.div 1 (1 + 0) = 1
  rw [add_zero]
  refine (Ideal.div_coe (one_ne_zero (α := ℝ)) 1).trans ?_
  rw [one_div_one, EReal.coe_one, one_mul]

theorem sigm_bot : sigm ⊥ = 0 := by
  unfold sigm
  rw [EReal.neg_bot]
  show Ideal.div 1 (1 + ⊤) = 0
  have e : (1 : EReal) + ⊤ = ⊤ := rfl
  rw [e]
  simp [Ideal.div]

/-- The two forms of the sigmoid agree, the infinities included. -/
theorem sigm_eq (x : EReal) : ((1 / 2 : ℝ) : EReal) + ((1 / 2 : ℝ) : EReal) * Ideal.tanh (((1 / 2 : ℝ) : EReal) * x) = sigm x := by
  induction x with
  | bot =>
    rw [sigm_bot, EReal.coe_mul_bot_of_pos (by norm_num)]
    show ((1 / 2 : ℝ) : EReal) + ((1 / 2 : ℝ) : EReal) * ((-1 : ℝ) : EReal) = ((0 : ℝ) : EReal)
    rw [← EReal.coe_mul, ← EReal.coe_add]; norm_num
  | top =>
    rw [sigm_top, EReal.coe_mul_top_of_pos (by norm_num)]
    show ((1 / 2 : ℝ) : EReal) + ((1 / 2 : ℝ) : EReal) * ((1 : ℝ) : EReal) = ((1 : ℝ) : EReal)
    rw [← EReal.coe_mul, ← EReal.coe_add]; norm_num
  | coe r =>
    rw [sigm_coe, ← EReal.coe_mul]
    show ((1 / 2 : ℝ) : EReal) + ((1 / 2 : ℝ) : EReal) * ((Real.tanh (1 / 2 * r) : ℝ) : EReal) = _
    rw [← EReal.coe_mul, ← EReal.coe_add, real_sigm]

/-- A sigmoid is a real number. -/
theorem sigm_real (x : EReal) : ∃ r : ℝ, sigm x = (r : EReal) := by
  induction x with
  | bot => exact ⟨0, sigm_bot⟩
  | top => exact ⟨1, sigm_top⟩
  | coe r => exact ⟨_, sigm_coe r⟩

/-- A hyperbolic tangent is a real number. -/
theorem tanh_real (x : EReal) : ∃ r : ℝ, Ideal.tanh x = (r : EReal) := by
  induction x with
  | bot => exact ⟨-1, rfl⟩
  | top => exact ⟨1, rfl⟩
  | coe r => exact ⟨_, rfl⟩

/-- The mix of candidate and old value, in its two forms, at reals. -/
theorem mix_eq {n z h : EReal} (hn : ∃ r : ℝ, n = r) (hz : ∃ r : ℝ, z = r) (hh : ∃ r : ℝ, h = r) :
    n + z * (h - n) = (1 - z) * n + z * h := by
  obtain ⟨n, rfl⟩ := hn; obtain ⟨z, rfl⟩ := hz; obtain ⟨h, rfl⟩ := hh
  have : (1 : EReal) = ((1 : ℝ) : EReal) := rfl
  rw [this]
  simp only [← EReal.coe_sub, ← EReal.coe_mul, ← EReal.coe_add]
  congr 1; ring

/-- The mix of reals is a real. -/
theorem mix_real {n z h : EReal} (hn : ∃ r : ℝ, n = r) (hz : ∃ r : ℝ, z = r) (hh : ∃ r : ℝ, h = r) :
    ∃ r : ℝ, (1 - z) * n + z * h = r := by
  obtain ⟨n, rfl⟩ := hn; obtain ⟨z, rfl⟩ := hz; obtain ⟨h, rfl⟩ := hh
  exact ⟨(1 - z) * n + z * h, by simp only [EReal.coe_sub, EReal.coe_mul, EReal.coe_add]; rfl⟩

/-- Adding one and taking it away again does not change whether a sum is zero. -/
theorem add_one_sub_one (s : EReal) : s + 1 - 1 = s := by
  induction s with
  | bot => rfl
  | top => rfl
  | coe r =>
    have : (1 : EReal) = ((1 : ℝ) : EReal) := rfl
    rw [this, ← EReal.coe_add, ← EReal.coe_sub]; congr 1; ring

/-- A product with one more column: a row of weights with the bias behind it, against a column with a one under it. -/
theorem sum_bias {n : ℕ} (w x : Fin (n + 1) → EReal) (w' x' : Fin n → EReal) (b : EReal)
    (hw : ∀ k : Fin n, w k.castSucc = w' k) (hx : ∀ k : Fin n, x k.castSucc = x' k) (hwl : w (Fin.last n) = b)
    (hxl : x (Fin.last n) = 1) : ∑ k, w k * x k = (∑ k, w' k * x' k) + b := by
  rw [Fin.sum_univ_castSucc, hwl, hxl, mul_one]
  simp only [hw, hx]

end Cert.Model

end
-- ==== Proof.Model.Net.lean ====
/-
  The network, entry by entry over the extended reals: the recurrence over one pile with its stop at the first empty
  slice, the two layers over the hand, and the mix. Both programs are read as this.
-/
module

public import proofs.«01_k».proof.Proof.Model.Scalars

@[expose] public section

noncomputable section

namespace Cert.Model

open Idealize.ShloMosaic

/-- The parameters of the recurrence: input and hidden weights, and their biases, the gates one under another. -/
structure Gru where
  wih : Fin 8112 → Fin 52 → EReal
  whh : Fin 8112 → Fin 2704 → EReal
  bih : Fin 8112 → EReal
  bhh : Fin 8112 → EReal

/-- Row `j` of gate `g`. -/
def row (g : Fin 3) (j : Fin 2704) : Fin 8112 := ⟨2704 * g.val + j.val, by have := g.isLt; have := j.isLt; omega⟩

/-- The input part of a gate. -/
def Gru.inp (p : Gru) (x : Fin 52 → EReal) (i : Fin 8112) : EReal := (∑ k, p.wih i k * x k) + p.bih i
/-- The hidden part of a gate. -/
def Gru.hid (p : Gru) (h : Fin 2704 → EReal) (i : Fin 8112) : EReal := (∑ k, p.whh i k * h k) + p.bhh i
/-- The reset gate. -/
def Gru.reset (p : Gru) (x : Fin 52 → EReal) (h : Fin 2704 → EReal) (j : Fin 2704) : EReal :=
  sigm (p.inp x (row 0 j) + p.hid h (row 0 j))
/-- The update gate. -/
def Gru.update (p : Gru) (x : Fin 52 → EReal) (h : Fin 2704 → EReal) (j : Fin 2704) : EReal :=
  sigm (p.inp x (row 1 j) + p.hid h (row 1 j))
/-- The candidate. -/
def Gru.cand (p : Gru) (x : Fin 52 → EReal) (h : Fin 2704 → EReal) (j : Fin 2704) : EReal :=
  Ideal.tanh (p.inp x (row 2 j) + p.reset x h j * p.hid h (row 2 j))
/-- One step of the recurrence. -/
def Gru.cell (p : Gru) (x : Fin 52 → EReal) (h : Fin 2704 → EReal) (j : Fin 2704) : EReal :=
  (1 - p.update x h j) * p.cand x h j + p.update x h j * h j

/-- The slices `0, …, t` of a pile have cards: none of them sums to zero. -/
def live (P : Fin 52 → Fin 52 → EReal) (t : ℕ) : Prop := ∀ s : Fin 52, s.val ≤ t → ∑ k, P s k ≠ 0

open Classical in
/-- The hidden state before step `t`: it is frozen from the first empty slice on. -/
def Gru.state (p : Gru) (P : Fin 52 → Fin 52 → EReal) : ℕ → Fin 2704 → EReal
  | 0 => fun _ => 0
  | t + 1 => fun j =>
    if h : t < 52 then (if live P t then p.cell (P ⟨t, h⟩) (p.state P t) j else p.state P t j) else p.state P t j

/-- The hidden state is real. -/
theorem Gru.state_real (p : Gru) (P : Fin 52 → Fin 52 → EReal) : ∀ (t : ℕ) (j : Fin 2704), ∃ r : ℝ, p.state P t j = r
  | 0, _ => ⟨0, rfl⟩
  | t + 1, j => by
    simp only [Gru.state]
    split
    · split
      · exact mix_real (tanh_real _) (sigm_real _) (p.state_real P t j)
      · exact p.state_real P t j
    · exact p.state_real P t j

theorem Gru.state_succ (p : Gru) (P : Fin 52 → Fin 52 → EReal) (t : Fin 52) (hl : live P t.val) (j : Fin 2704) :
    p.state P (t.val + 1) j = p.cell (P t) (p.state P t.val) j := by
  simp only [Gru.state]; rw [dif_pos t.isLt, if_pos hl]

theorem Gru.state_stay (p : Gru) (P : Fin 52 → Fin 52 → EReal) (t : Fin 52) (hl : ¬ live P t.val) (j : Fin 2704) :
    p.state P (t.val + 1) j = p.state P t.val j := by
  simp only [Gru.state]; rw [dif_pos t.isLt, if_neg hl]

/-- `live` one step on. -/
theorem live_zero (P : Fin 52 → Fin 52 → EReal) : live P 0 ↔ ∑ k, P 0 k ≠ 0 :=
  ⟨fun h => h 0 le_rfl, fun h s hs => by
    have : s = 0 := Fin.ext (Nat.le_zero.mp hs)
    rw [this]; exact h⟩

theorem live_succ (P : Fin 52 → Fin 52 → EReal) (t : ℕ) (ht : t + 1 < 52) : live P (t + 1) ↔ live P t ∧ ∑ k, P ⟨t + 1, ht⟩ k ≠ 0 := by
  constructor
  · exact fun h => ⟨fun s hs => h s (Nat.le_succ_of_le hs), h _ le_rfl⟩
  · rintro ⟨h, h'⟩ s hs
    rcases Nat.lt_or_ge s.val (t + 1) with hl | hl
    · exact h s (Nat.lt_succ_iff.mp hl)
    · have : s = ⟨t + 1, ht⟩ := Fin.ext (le_antisymm hs hl)
      rw [this]; exact h'

/-- The parameters of the three dense layers. -/
structure Dense where
  w1 : Fin 2704 → Fin 676 → EReal
  b1 : Fin 2704 → EReal
  w2 : Fin 1352 → Fin 2704 → EReal
  b2 : Fin 1352 → EReal
  wd : Fin 1352 → Fin 2704 → EReal
  bd : Fin 1352 → EReal

/-- The first layer over a hand, cut at zero. -/
def Dense.first (d : Dense) (X : Fin 676 → EReal) (i : Fin 2704) : EReal := max ((∑ k, d.w1 i k * X k) + d.b1 i) 0
/-- The second layer. -/
def Dense.second (d : Dense) (X : Fin 676 → EReal) (a : Fin 1352) : EReal := (∑ i, d.w2 a i * d.first X i) + d.b2 a
/-- The layer over the hidden state. -/
def Dense.pile (d : Dense) (h : Fin 2704 → EReal) (a : Fin 1352) : EReal := (∑ i, d.wd a i * h i) + d.bd a

open Classical in
/-- The result for one hand and one pile: mixed where the first slice has cards. -/
def net (p : Gru) (d : Dense) (X : Fin 676 → EReal) (P : Fin 52 → Fin 52 → EReal) (a : Fin 1352) : EReal :=
  if live P 0 then
    Ideal.ofBits .f32 0x3E99999A#32 * d.second X a + Ideal.ofBits .f32 0x3F333333#32 * d.pile (p.state P 52) a
  else d.second X a

end Cert.Model

end
-- ==== Proof.Value.GruTrip.lean ====
/-
  The recurrent kernel at exact reals, entry by entry: the state after `k` trips is the model's hidden state before step
  `k`, column by column, and the flags say which piles have met no empty slice.
-/
module

public import proofs.«01_k».proof.Proof.Run.GruState
public import proofs.«01_k».proof.Proof.Model.Net
public import Idealize.ShloMosaic.Lib.Pointwise
public import Idealize.ShloMosaic.Lib.WordArith

@[expose] public section

noncomputable section

namespace Cert.Gru

open Idealize.ShloMosaic Cert.KernelIdeal Cert.KernelIdeal.Gen

/-- The operands hold the piles over a row of ones and the model's parameters, the biases as one more column. -/
structure Reads (o : Ops Ideal) (p : Model.Gru) (P : Fin 256 → Fin 52 → Fin 52 → EReal) : Prop where
  seq : ∀ (t k : Fin 52) (b : Fin 256), o.seq (ix3 t k.castSucc b) = P b t k
  seq1 : ∀ (t : Fin 52) (b : Fin 256), o.seq (ix3 t (Fin.last 52) b) = 1
  ir : ∀ (j : Fin 2704) (k : Fin 52), o.ir (ix2 j k.castSucc) = p.wih (Model.row 0 j) k
  irb : ∀ j : Fin 2704, o.ir (ix2 j (Fin.last 52)) = p.bih (Model.row 0 j) + p.bhh (Model.row 0 j)
  iz : ∀ (j : Fin 2704) (k : Fin 52), o.iz (ix2 j k.castSucc) = p.wih (Model.row 1 j) k
  izb : ∀ j : Fin 2704, o.iz (ix2 j (Fin.last 52)) = p.bih (Model.row 1 j) + p.bhh (Model.row 1 j)
  ig : ∀ (j : Fin 2704) (k : Fin 52), o.ig (ix2 j k.castSucc) = p.wih (Model.row 2 j) k
  igb : ∀ j : Fin 2704, o.ig (ix2 j (Fin.last 52)) = p.bih (Model.row 2 j)
  hr : ∀ j k : Fin 2704, o.hr (ix2 j k) = p.whh (Model.row 0 j) k
  hz : ∀ j k : Fin 2704, o.hz (ix2 j k) = p.whh (Model.row 1 j) k
  hg : ∀ j k : Fin 2704, o.hg (ix2 j k.castSucc) = p.whh (Model.row 2 j) k
  hgb : ∀ j : Fin 2704, o.hg (ix2 j (Fin.last 2704)) = p.bhh (Model.row 2 j)

/-- Trip `k`'s slice, read at an index. -/
theorem slice_apply (o : Ops Ideal) (k : Fin k0_t1_loop.trips) (t : Fin 52) (ht : t.val = k.val) (i : Fin 53) (b : Fin 256) :
    slice o k (ix3 0 i b) = o.seq (ix3 t i b) := by
  unfold slice
  refine congrArg o.seq ?_
  funext a; apply Fin.ext
  have e := k0_off1_eq k
  match a with
  | ⟨0, _⟩ =>
    show k0_off1 k 0 + 1 * 0 = t.val
    rw [e, ht]; rfl
  | ⟨1, _⟩ =>
    show k0_off1 k 1 + 1 * i.val = i.val
    rw [e]; show 0 + 1 * i.val = i.val; omega
  | ⟨2, _⟩ =>
    show k0_off1 k 2 + 1 * b.val = b.val
    rw [e]; show 0 + 1 * b.val = b.val; omega

/-- The rows of a block over a row of ones. -/
theorem withOnes_row (h : Vec Ideal S2704x256 .f32) (j : Fin 2704) (i : Fin 2705) (hi : i.val = j.val) (b : Fin 256) :
    withOnes h (ix2 i b) = h (ix2 j b) := by
  unfold withOnes VecWindow.put
  dsimp only
  have h2 : ∀ a : Fin 2, (![0, 0] : Fin 2 → ℕ) a ≤ ((ix2 i b : S2705x256.Idx) a).val
      ∧ ((ix2 i b : S2705x256.Idx) a).val < (![0, 0] : Fin 2 → ℕ) a + S2704x256.size a :=
    Fin.forall_fin_two.mpr ⟨⟨Nat.zero_le _, by show i.val < 0 + 2704; have := j.isLt; omega⟩,
      ⟨Nat.zero_le _, by show b.val < 0 + 256; have := b.isLt; omega⟩⟩
  refine (dif_pos h2).trans (congrArg h ?_)
  funext a; apply Fin.ext
  match a with
  | ⟨0, _⟩ => exact hi
  | ⟨1, _⟩ => rfl

/-- The row of ones. -/
theorem withOnes_last (h : Vec Ideal S2704x256 .f32) (b : Fin 256) : withOnes h (ix2 (Fin.last 2704) b) = 1 := by
  unfold withOnes VecWindow.put
  dsimp only
  have h2 : ¬ ∀ a : Fin 2, (![0, 0] : Fin 2 → ℕ) a ≤ ((ix2 (Fin.last 2704) b : S2705x256.Idx) a).val
      ∧ ((ix2 (Fin.last 2704) b : S2705x256.Idx) a).val < (![0, 0] : Fin 2 → ℕ) a + S2704x256.size a :=
    fun h => absurd (h 0).2 (by show ¬ (2704 < 0 + 2704); omega)
  refine (dif_neg h2).trans ?_
  exact Ideal.ofBits_one_f32

section Trip

variable {o : Ops Ideal} {p : Model.Gru} {P : Fin 256 → Fin 52 → Fin 52 → EReal} (R : Reads o p P)
  (k : Fin k0_t1_loop.trips) (t : Fin 52) (ht : t.val = k.val)

include R ht

/-- The product of a row of input weights with the slice: the bias column meets the row of ones. -/
theorem inp_sum (w : Vec Ideal S2704x53 .bf16) (w' : Fin 52 → EReal) (bias : EReal) (j : Fin 2704)
    (hw : ∀ k : Fin 52, w (ix2 j k.castSucc) = w' k) (hb : w (ix2 j (Fin.last 52)) = bias) (b : Fin 256) :
    ∑ i : Fin 53, w (ix2 j i) * slice o k (ix3 0 i b) = (∑ i, w' i * P b t i) + bias :=
  Model.sum_bias _ _ _ _ _ hw (fun i => (slice_apply o k t ht _ b).trans (R.seq t i b)) hb
    ((slice_apply o k t ht _ b).trans (R.seq1 t b))

/-- The kernel's test of a slice: its sum with the row of ones, less one. -/
theorem slice_sum (b : Fin 256) : ∑ i : Fin 53, slice o k (ix3 0 i b) - 1 = ∑ i, P b t i := by
  have e : ∑ i : Fin 53, slice o k (ix3 0 i b) = (∑ i, P b t i) + 1 := by
    rw [Fin.sum_univ_castSucc, slice_apply o k t ht, R.seq1]
    congr 1
    exact Finset.sum_congr rfl fun i _ => (slice_apply o k t ht _ b).trans (R.seq t i b)
  rw [e, Model.add_one_sub_one]

/-- The slice's flag. -/
theorem nonempty_apply (b : Fin 256) : k0_pay6 (slice o k) (ix2 0 b) = BitVec.ofBool (decide (∑ i, P b t i ≠ 0)) := by
  have e : k0_pay6 (slice o k) (ix2 0 b) = BitVec.ofBool (decide (∑ i : Fin 53, slice o k (ix3 0 i b) - 1 ≠ 0)) := by
    pointwise [k0_pay6, k0_pay5]
  rw [e, slice_sum R k t ht b]

/-- The flags a trip uses: those it found, and the slice's. -/
theorem flag_apply (v : Vec Ideal S1x256 .f32) (b : Fin 256) :
    k0_pay7 (slice o k) v (ix2 0 b) = BitVec.ofBool (decide (0 < v (ix2 0 b)) && decide (∑ i, P b t i ≠ 0)) := by
  have e : k0_pay7 (slice o k) v (ix2 0 b)
      = IntOp.andi (BitVec.ofBool (decide (0 < v (ix2 0 b)))) (k0_pay6 (slice o k) (ix2 0 b)) := by
    pointwise [k0_pay7]
  rw [e, nonempty_apply R k t ht b, WordArith.andi_ofBool]

/-- The flags a trip leaves. -/
theorem newFlag_apply (v : Vec Ideal S1x256 .f32) (b : Fin 256) :
    k0_pay8 (slice o k) v (ix2 0 b) = if 0 < v (ix2 0 b) ∧ ∑ i, P b t i ≠ 0 then 1 else 0 := by
  have e : k0_pay8 (slice o k) v (ix2 0 b)
      = FloatOps.sitofp (F := Ideal) .f32 (BitVec.setWidth 32 (k0_pay7 (slice o k) v (ix2 0 b))) := by
    pointwise [k0_pay8]
  have e1 : FloatOps.sitofp (F := Ideal) .f32 1#32 = 1 := by
    show (((1#32 : BitVec 32).toInt : ℝ) : EReal) = 1
    simp
  have e0 : FloatOps.sitofp (F := Ideal) .f32 0#32 = 0 := by
    show (((0#32 : BitVec 32).toInt : ℝ) : EReal) = 0
    simp
  rw [e, flag_apply R k t ht v b]
  by_cases h1 : 0 < v (ix2 0 b) <;> by_cases h2 : ∑ i, P b t i ≠ 0 <;> simp [h1, h2, e0, e1]

/-- THE TRIP: where the flag stands the hidden rows take the model's step, elsewhere they stay. -/
theorem newRows_apply (h : Vec Ideal S2704x256 .f32) (v : Vec Ideal S1x256 .f32) (b : Fin 256)
    (hr : ∀ i : Fin 2704, ∃ r : ℝ, h (ix2 i b) = r) (j : Fin 2704) :
    newRows o (slice o k) h v (ix2 j b)
      = if 0 < v (ix2 0 b) ∧ ∑ i, P b t i ≠ 0 then p.cell (P b t) (fun i => h (ix2 i b)) j else h (ix2 j b) := by
  have e : newRows o (slice o k) h v (ix2 j b) = Scalar.select (k0_pay7 (slice o k) v (ix2 0 b))
      (Ideal.tanh (∑ i, o.ig (ix2 j i) * slice o k (ix3 0 i b)
          + (Ideal.ofBits .f32 0x3F000000#32 + Ideal.ofBits .f32 0x3F000000#32 * Ideal.tanh (Ideal.ofBits .f32 0x3F000000#32
              * (∑ i, o.ir (ix2 j i) * slice o k (ix3 0 i b)
                + ∑ i : Fin 2704, o.hr (ix2 j i) * withOnes h (ix2 ⟨i.val, Nat.lt_succ_of_lt i.isLt⟩ b))))
            * ∑ i, o.hg (ix2 j i) * withOnes h (ix2 i b))
        + (Ideal.ofBits .f32 0x3F000000#32 + Ideal.ofBits .f32 0x3F000000#32 * Ideal.tanh (Ideal.ofBits .f32 0x3F000000#32
              * (∑ i, o.iz (ix2 j i) * slice o k (ix3 0 i b)
                + ∑ i : Fin 2704, o.hz (ix2 j i) * withOnes h (ix2 ⟨i.val, Nat.lt_succ_of_lt i.isLt⟩ b))))
          * (withOnes h (ix2 ⟨j.val, Nat.lt_succ_of_lt j.isLt⟩ b)
            - Ideal.tanh (∑ i, o.ig (ix2 j i) * slice o k (ix3 0 i b)
              + (Ideal.ofBits .f32 0x3F000000#32 + Ideal.ofBits .f32 0x3F000000#32 * Ideal.tanh (Ideal.ofBits .f32 0x3F000000#32
                  * (∑ i, o.ir (ix2 j i) * slice o k (ix3 0 i b)
                    + ∑ i : Fin 2704, o.hr (ix2 j i) * withOnes h (ix2 ⟨i.val, Nat.lt_succ_of_lt i.isLt⟩ b))))
                * ∑ i, o.hg (ix2 j i) * withOnes h (ix2 i b))))
      (withOnes h (ix2 ⟨j.val, Nat.lt_succ_of_lt j.isLt⟩ b)) := by
    pointwise [newRows, k0_pay4, k0_pay5, k0_pay10, k0_pay11, k0_pay12, k0_pay13]
  have hi : ∀ i : Fin 2704, withOnes h (ix2 ⟨i.val, Nat.lt_succ_of_lt i.isLt⟩ b) = h (ix2 i b) := fun i => withOnes_row h i _ rfl b
  have eg : ∑ i, o.hg (ix2 j i) * withOnes h (ix2 i b) = p.hid (fun i => h (ix2 i b)) (Model.row 2 j) :=
    Model.sum_bias _ _ _ _ _ (R.hg j) (fun i => withOnes_row h i _ rfl b) (R.hgb j) (withOnes_last h b)
  rw [e, flag_apply R k t ht v b, eg]
  simp only [hi, R.hr, R.hz, Model.half_word, Model.sigm_eq]
  rw [inp_sum R k t ht o.ig _ _ j (R.ig j) (R.igb j) b, inp_sum R k t ht o.ir _ _ j (R.ir j) (R.irb j) b,
    inp_sum R k t ht o.iz _ _ j (R.iz j) (R.izb j) b]
  have gate : ∀ g : Fin 3, (∑ i, p.wih (Model.row g j) i * P b t i) + (p.bih (Model.row g j) + p.bhh (Model.row g j))
      + ∑ i, p.whh (Model.row g j) i * h (ix2 i b)
      = p.inp (P b t) (Model.row g j) + p.hid (fun i => h (ix2 i b)) (Model.row g j) := fun g => by
    unfold Model.Gru.inp Model.Gru.hid
    rw [add_assoc, add_assoc, add_assoc]
    congr 2
    exact add_comm _ _
  rw [gate 0, gate 1]
  have hc : Model.sigm (p.inp (P b t) (Model.row 0 j) + p.hid (fun i => h (ix2 i b)) (Model.row 0 j))
      = p.reset (P b t) (fun i => h (ix2 i b)) j := rfl
  have hu : Model.sigm (p.inp (P b t) (Model.row 1 j) + p.hid (fun i => h (ix2 i b)) (Model.row 1 j))
      = p.update (P b t) (fun i => h (ix2 i b)) j := rfl
  have hn : Ideal.tanh ((∑ i, p.wih (Model.row 2 j) i * P b t i) + p.bih (Model.row 2 j)
      + p.reset (P b t) (fun i => h (ix2 i b)) j * p.hid (fun i => h (ix2 i b)) (Model.row 2 j))
      = p.cand (P b t) (fun i => h (ix2 i b)) j := rfl
  have hm : p.cand (P b t) (fun i => h (ix2 i b)) j
      + p.update (P b t) (fun i => h (ix2 i b)) j * (h (ix2 j b) - p.cand (P b t) (fun i => h (ix2 i b)) j)
      = p.cell (P b t) (fun i => h (ix2 i b)) j := Model.mix_eq (Model.tanh_real _) (Model.sigm_real _) (hr j)
  rw [hc, hu, hn, hm]
  by_cases h1 : 0 < v (ix2 0 b) <;> by_cases h2 : ∑ i, P b t i ≠ 0 <;> simp [h1, h2, Scalar.select] <;> rfl

end Trip

open Classical in
/-- THE STATE: after `k` trips the hidden rows are the model's hidden state before step `k`; a flag stands where all the
    slices so far have cards. -/
theorem state_apply {o : Ops Ideal} {p : Model.Gru} {P : Fin 256 → Fin 52 → Fin 52 → EReal} (R : Reads o p P) (b : Fin 256) :
    ∀ k : ℕ, k ≤ 52 → (∀ j : Fin 2704, (state o k).1 (ix2 j b) = p.state (P b) k j)
      ∧ (state o k).2 (ix2 0 b) = if ∀ s : Fin 52, s.val < k → ∑ i, P b s i ≠ 0 then 1 else 0
  | 0, _ => by
    refine ⟨fun j => ?_, ?_⟩
    · show k0_pay1 (F := Ideal) (ix2 j b) = 0
      pointwise [k0_pay1]
    · rw [if_pos (fun s hs => absurd hs (Nat.not_lt_zero _))]
      show k0_pay3 (F := Ideal) (ix2 0 b) = 1
      pointwise [k0_pay3]
  | k + 1, hk => by
    obtain ⟨ih1, ih2⟩ := state_apply R b k (Nat.le_of_succ_le hk)
    have htr : k < k0_t1_loop.trips := lt_of_lt_of_le hk (by decide +kernel)
    have e := state_succ o ⟨k, htr⟩
    have hflag : (0 < (state o k).2 (ix2 0 b) ∧ ∑ i, P b ⟨k, hk⟩ i ≠ 0) ↔ Model.live (P b) k := by
      rw [ih2]
      constructor
      · rintro ⟨h1, h2⟩ s hs
        by_cases hl : ∀ s : Fin 52, s.val < k → ∑ i, P b s i ≠ 0
        · rcases Nat.lt_or_ge s.val k with h | h
          · exact hl s h
          · have : s = ⟨k, hk⟩ := Fin.ext (le_antisymm hs h)
            rw [this]; exact h2
        · rw [if_neg hl] at h1; exact absurd h1 (lt_irrefl _)
      · intro h
        rw [if_pos (fun s hs => h s hs.le)]
        exact ⟨one_pos, h ⟨k, hk⟩ le_rfl⟩
    have hreal : ∀ i : Fin 2704, ∃ r : ℝ, (state o k).1 (ix2 i b) = r := fun i => by rw [ih1]; exact p.state_real _ _ _
    have hfun : (fun i : Fin 2704 => (state o k).1 (ix2 i b)) = p.state (P b) k := funext ih1
    refine ⟨fun j => ?_, ?_⟩
    · rw [show k + 1 = (⟨k, htr⟩ : Fin k0_t1_loop.trips).val + 1 from rfl, e]
      refine (newRows_apply R ⟨k, htr⟩ ⟨k, hk⟩ rfl _ _ b hreal j).trans ?_
      rw [hfun, ih1]
      by_cases hl : Model.live (P b) k
      · rw [if_pos (hflag.mpr hl)]; exact (p.state_succ (P b) ⟨k, hk⟩ hl j).symm
      · rw [if_neg (fun h => hl (hflag.mp h))]; exact (p.state_stay (P b) ⟨k, hk⟩ hl j).symm
    · rw [show k + 1 = (⟨k, htr⟩ : Fin k0_t1_loop.trips).val + 1 from rfl, e]
      refine (newFlag_apply R ⟨k, htr⟩ ⟨k, hk⟩ rfl _ b).trans ?_
      refine if_congr (hflag.trans ⟨fun h s hs => h s (Nat.lt_succ_iff.mp hs), fun h s hs => h s (Nat.lt_succ_of_le hs)⟩) rfl rfl

/-- The mask the kernel stores: whether the first slice has cards. -/
theorem mask_apply {o : Ops Ideal} {p : Model.Gru} {P : Fin 256 → Fin 52 → Fin 52 → EReal} (R : Reads o p P) (b : Fin 256) :
    mask o (ix2 0 b) = BitVec.setWidth 32 (BitVec.ofBool (decide (∑ i, P b 0 i ≠ 0))) := by
  have e : mask o (ix2 0 b) = BitVec.setWidth 32 (k0_pay6 (slice o ⟨0, trips_pos⟩) (ix2 0 b)) := by
    unfold mask
    pointwise [k0_pay9]
  rw [e, nonempty_apply R ⟨0, trips_pos⟩ 0 rfl b]

end Cert.Gru

end
-- ==== Proof.Value.HeadOut.lean ====
/-
  The head at exact reals, entry by entry: the two layers over a hand, the layer over the hidden state, and their mix.
-/
module

public import proofs.«01_k».proof.Proof.Run.HeadBody
public import proofs.«01_k».proof.Proof.Value.GruTrip

@[expose] public section

noncomputable section

namespace Cert.Head

open Idealize.ShloMosaic Cert.KernelIdeal Cert.KernelIdeal.Gen

/-- The operands hold the hands over a row of ones, the hidden state at the end of the recurrence over a row of ones, whether
    the first slice has cards, and the weights with the biases as one more column. -/
structure Reads (o : Ops Ideal) (p : Model.Gru) (d : Model.Dense) (X : Fin 256 → Fin 676 → EReal)
    (P : Fin 256 → Fin 52 → Fin 52 → EReal) : Prop where
  cards : ∀ (k : Fin 676) (b : Fin 256), o.cards (ix2 k.castSucc b) = X b k
  cards1 : ∀ b : Fin 256, o.cards (ix2 (Fin.last 676) b) = 1
  hid : ∀ (j : Fin 2704) (b : Fin 256), o.hid (ix2 j.castSucc b) = p.state (P b) 52 j
  hid1 : ∀ b : Fin 256, o.hid (ix2 (Fin.last 2704) b) = 1
  mask : ∀ b : Fin 256, o.mask (ix2 0 b) = BitVec.setWidth 32 (BitVec.ofBool (decide (∑ i, P b 0 i ≠ 0)))
  w1 : ∀ (i : Fin 2704) (k : Fin 676), o.w1 (ix2 i k.castSucc) = d.w1 i k
  b1 : ∀ i : Fin 2704, o.w1 (ix2 i (Fin.last 676)) = d.b1 i
  w2 : ∀ (a : Fin 1352) (i : Fin 2704), o.w2 (ix2 a i.castSucc) = d.w2 a i
  b2 : ∀ a : Fin 1352, o.w2 (ix2 a (Fin.last 2704)) = d.b2 a
  wd : ∀ (a : Fin 1352) (i : Fin 2704), o.wdp (ix2 a i.castSucc) = d.wd a i
  bd : ∀ a : Fin 1352, o.wdp (ix2 a (Fin.last 2704)) = d.bd a

variable {o : Ops Ideal} {p : Model.Gru} {d : Model.Dense} {X : Fin 256 → Fin 676 → EReal}
  {P : Fin 256 → Fin 52 → Fin 52 → EReal} (R : Reads o p d X P)

include R

/-- The first layer. -/
theorem layer_apply (i : Fin 2704) (b : Fin 256) : layer o (ix2 i.castSucc b) = d.first (X b) i := by
  have e : k1_pay2 o.w1 o.cards (ix2 i b) = max (∑ k, o.w1 (ix2 i k) * o.cards (ix2 k b)) 0 := by
    pointwise [k1_pay2]
  unfold layer
  rw [Gru.withOnes_row _ i _ rfl b, e]
  unfold Model.Dense.first
  rw [Model.sum_bias _ _ _ _ _ (R.w1 i) (fun k => R.cards k b) (R.b1 i) (R.cards1 b)]

/-- The second layer. -/
theorem second_apply (a : Fin 1352) (b : Fin 256) : k1_pay4 o.w2 (layer o) (ix2 a b) = d.second (X b) a := by
  have e : k1_pay4 o.w2 (layer o) (ix2 a b) = ∑ k, o.w2 (ix2 a k) * layer o (ix2 k b) := by
    pointwise [k1_pay4]
  rw [e]
  exact Model.sum_bias _ _ _ _ _ (R.w2 a) (fun k => layer_apply R k b) (R.b2 a) (Gru.withOnes_last _ b)

/-- The layer over the hidden state. -/
theorem pile_apply (a : Fin 1352) (b : Fin 256) : k1_pay5 o.wdp o.hid (ix2 a b) = d.pile (p.state (P b) 52) a := by
  have e : k1_pay5 o.wdp o.hid (ix2 a b) = ∑ k, o.wdp (ix2 a k) * o.hid (ix2 k b) := by
    pointwise [k1_pay5]
  rw [e]
  exact Model.sum_bias _ _ _ _ _ (R.wd a) (fun k => R.hid k b) (R.bd a) (R.hid1 b)

/-- THE HEAD: what it stores is the network's result. -/
theorem out_apply (a : Fin 1352) (b : Fin 256) : out o (ix2 a b) = Model.net p d (X b) (P b) a := by
  have e : out o (ix2 a b) = Scalar.select (k1_pay6 o.mask (ix2 0 b))
      (Ideal.ofBits .f32 0x3E99999A#32 * k1_pay4 o.w2 (layer o) (ix2 a b)
        + Ideal.ofBits .f32 0x3F333333#32 * k1_pay5 o.wdp o.hid (ix2 a b))
      (k1_pay4 o.w2 (layer o) (ix2 a b)) := by
    pointwise [out, k1_pay1, k1_pay7, k1_pay8]
  have em : k1_pay6 o.mask (ix2 0 b) = IntOp.cmpi .sgt (o.mask (ix2 0 b)) 0#32 := by
    pointwise [k1_pay6]
  rw [e, em, R.mask, second_apply R, pile_apply R]
  unfold Model.net
  by_cases h : ∑ i, P b 0 i ≠ 0
  · rw [if_pos ((Model.live_zero _).mpr h)]
    have : IntOp.cmpi .sgt (BitVec.setWidth 32 (BitVec.ofBool (decide (∑ i, P b 0 i ≠ 0)))) 0#32 = 1#1 := by
      rw [decide_eq_true h]; decide
    rw [this]; rfl
  · rw [if_neg (fun hl => h ((Model.live_zero _).mp hl))]
    have : IntOp.cmpi .sgt (BitVec.setWidth 32 (BitVec.ofBool (decide (∑ i, P b 0 i ≠ 0)))) 0#32 = 0#1 := by
      rw [decide_eq_false h]; decide
    rw [this]; rfl

end Cert.Head

end
-- ==== Proof.Model.Args.lean ====
/-
  The network's data off the twelve arguments, as plain arrays.
-/
module

public import proofs.«01_k».proof.Proof.Model.Net
public import Idealize.ShloMosaic.Lib.Pointwise

@[expose] public section

noncomputable section

namespace Cert.Model

open Idealize.ShloMosaic

/-- The piles, an array of 256 piles of 52 slices of 4 suits of 13 cards, each slice as one row. -/
def pilesOf (x : (⟨4, ![256, 52, 4, 13]⟩ : Shape).Idx → EReal) (b : Fin 256) (t k : Fin 52) : EReal :=
  x (ix4 b t ⟨k.val / 13, by have := k.isLt; omega⟩ ⟨k.val % 13, Nat.mod_lt _ (by norm_num)⟩)

/-- The hands, each as one row. -/
def handsOf (x : (⟨4, ![256, 13, 4, 13]⟩ : Shape).Idx → EReal) (b : Fin 256) (k : Fin 676) : EReal :=
  x (ix4 b ⟨k.val / 52, by have := k.isLt; omega⟩ ⟨k.val / 13 % 4, Nat.mod_lt _ (by norm_num)⟩
    ⟨k.val % 13, Nat.mod_lt _ (by norm_num)⟩)

/-- The recurrence's parameters. -/
def gruOf (wih : (⟨2, ![8112, 52]⟩ : Shape).Idx → EReal) (whh : (⟨2, ![8112, 2704]⟩ : Shape).Idx → EReal)
    (bih bhh : (⟨1, ![8112]⟩ : Shape).Idx → EReal) : Gru where
  wih i k := wih (ix2 i k)
  whh i k := whh (ix2 i k)
  bih i := bih (ix1 i)
  bhh i := bhh (ix1 i)

/-- The dense layers' parameters. -/
def denseOf (w1 : (⟨2, ![2704, 676]⟩ : Shape).Idx → EReal) (b1 : (⟨1, ![2704]⟩ : Shape).Idx → EReal)
    (w2 : (⟨2, ![1352, 2704]⟩ : Shape).Idx → EReal) (b2 : (⟨1, ![1352]⟩ : Shape).Idx → EReal)
    (wd : (⟨2, ![1352, 2704]⟩ : Shape).Idx → EReal) (bd : (⟨1, ![1352]⟩ : Shape).Idx → EReal) : Dense where
  w1 i k := w1 (ix2 i k)
  b1 i := b1 (ix1 i)
  w2 i k := w2 (ix2 i k)
  b2 i := b2 (ix1 i)
  wd i k := wd (ix2 i k)
  bd i := bd (ix1 i)

end Cert.Model

end
-- ==== Proof.Value.Host.lean ====
/-
  What the host stretches of the kernel's program leave in the arrays the two regions read, at an index: the piles and the
  hands over a row of ones, and the weights with a column of biases.
-/
module

public import proofs.«01_k».proof.Proof.Gen.KernelIdeal.Launch
public import proofs.«01_k».proof.Proof.Model.Args

@[expose] public section

noncomputable section

namespace Cert.HostIdeal

open Idealize.ShloMosaic Idealize.ShloMosaic.TcCoe Idealize.ShloMosaic.StableHlo Cert.KernelIdeal Cert.KernelIdeal.Gen

variable (V : Valuation τ sig (Elt Ideal))

/-- The recurrence's parameters off the arguments. -/
abbrev gru : Model.Gru := Model.gruOf (V (Proc.devRef .tc main_arg6)) (V (Proc.devRef .tc main_arg7))
  (V (Proc.devRef .tc main_arg8)) (V (Proc.devRef .tc main_arg9))
/-- The dense layers' parameters off the arguments. -/
abbrev dense : Model.Dense := Model.denseOf (V (Proc.devRef .tc main_arg2)) (V (Proc.devRef .tc main_arg3))
  (V (Proc.devRef .tc main_arg4)) (V (Proc.devRef .tc main_arg5)) (V (Proc.devRef .tc main_arg10)) (V (Proc.devRef .tc main_arg11))
/-- The piles off the arguments. -/
abbrev piles : Fin 256 → Fin 52 → Fin 52 → EReal := Model.pilesOf (V (Proc.devRef .tc main_arg1))
/-- The hands off the arguments. -/
abbrev hands : Fin 256 → Fin 676 → EReal := Model.handsOf (V (Proc.devRef .tc main_arg0))

/-! ## Before the recurrent region -/

theorem seq_apply (t k : Fin 52) (b : Fin 256) :
    (after hostOps0 V (Proc.devRef .tc main_v4) : Vec Ideal S52x53x256 .bf16) (ix3 t k.castSucc b) = piles V b t k := by
  after_results
  pointwise [Model.pilesOf]
  exact dif_pos k.isLt

theorem seq_last (t : Fin 52) (b : Fin 256) :
    (after hostOps0 V (Proc.devRef .tc main_v4) : Vec Ideal S52x53x256 .bf16) (ix3 t (Fin.last 52) b) = (1 : EReal) := by
  generalize hi : Fin.last 52 = i₀
  have hn : ¬ i₀.val < 52 := by rw [← hi]; exact lt_irrefl 52
  clear hi
  after_results
  pointwise
  exact dif_neg hn

theorem ir_apply (j : Fin 2704) (k : Fin 52) :
    (after hostOps0 V (Proc.devRef .tc main_v11) : Vec Ideal S2704x53 .bf16) (ix2 j k.castSucc) = (gru V).wih (Model.row 0 j) k := by
  after_results
  pointwise [Model.row, Model.gruOf]
  exact dif_pos k.isLt

theorem ir_last (j : Fin 2704) :
    (after hostOps0 V (Proc.devRef .tc main_v11) : Vec Ideal S2704x53 .bf16) (ix2 j (Fin.last 52))
      = (gru V).bih (Model.row 0 j) + (gru V).bhh (Model.row 0 j) := by
  generalize hi : Fin.last 52 = i₀
  have hn : ¬ i₀.val < 52 := by rw [← hi]; exact lt_irrefl 52
  clear hi
  after_results
  pointwise [Model.row, Model.gruOf]
  exact dif_neg hn

theorem iz_apply (j : Fin 2704) (k : Fin 52) :
    (after hostOps0 V (Proc.devRef .tc main_v18) : Vec Ideal S2704x53 .bf16) (ix2 j k.castSucc) = (gru V).wih (Model.row 1 j) k := by
  after_results
  pointwise [Model.row, Model.gruOf]
  exact dif_pos k.isLt

theorem iz_last (j : Fin 2704) :
    (after hostOps0 V (Proc.devRef .tc main_v18) : Vec Ideal S2704x53 .bf16) (ix2 j (Fin.last 52))
      = (gru V).bih (Model.row 1 j) + (gru V).bhh (Model.row 1 j) := by
  generalize hi : Fin.last 52 = i₀
  have hn : ¬ i₀.val < 52 := by rw [← hi]; exact lt_irrefl 52
  clear hi
  after_results
  pointwise [Model.row, Model.gruOf]
  exact dif_neg hn

theorem ig_apply (j : Fin 2704) (k : Fin 52) :
    (after hostOps0 V (Proc.devRef .tc main_v23) : Vec Ideal S2704x53 .bf16) (ix2 j k.castSucc) = (gru V).wih (Model.row 2 j) k := by
  after_results
  pointwise [Model.row, Model.gruOf]
  exact dif_pos k.isLt

theorem ig_last (j : Fin 2704) :
    (after hostOps0 V (Proc.devRef .tc main_v23) : Vec Ideal S2704x53 .bf16) (ix2 j (Fin.last 52)) = (gru V).bih (Model.row 2 j) := by
  generalize hi : Fin.last 52 = i₀
  have hn : ¬ i₀.val < 52 := by rw [← hi]; exact lt_irrefl 52
  clear hi
  after_results
  pointwise [Model.row, Model.gruOf]
  exact dif_neg hn

theorem hr_apply (j k : Fin 2704) :
    (after hostOps0 V (Proc.devRef .tc main_v25) : Vec Ideal S2704x2704 .bf16) (ix2 j k) = (gru V).whh (Model.row 0 j) k := by
  after_results
  pointwise [Model.row, Model.gruOf]

theorem hz_apply (j k : Fin 2704) :
    (after hostOps0 V (Proc.devRef .tc main_v27) : Vec Ideal S2704x2704 .bf16) (ix2 j k) = (gru V).whh (Model.row 1 j) k := by
  after_results
  pointwise [Model.row, Model.gruOf]

theorem hg_apply (j k : Fin 2704) :
    (after hostOps0 V (Proc.devRef .tc main_v32) : Vec Ideal S2704x2705 .bf16) (ix2 j k.castSucc) = (gru V).whh (Model.row 2 j) k := by
  after_results
  pointwise [Model.row, Model.gruOf]
  exact dif_pos k.isLt

theorem hg_last (j : Fin 2704) :
    (after hostOps0 V (Proc.devRef .tc main_v32) : Vec Ideal S2704x2705 .bf16) (ix2 j (Fin.last 2704)) = (gru V).bhh (Model.row 2 j) := by
  generalize hi : Fin.last 2704 = i₀
  have hn : ¬ i₀.val < 2704 := by rw [← hi]; exact lt_irrefl 2704
  clear hi
  after_results
  pointwise [Model.row, Model.gruOf]
  exact dif_neg hn

/-! ## Between the regions -/

theorem cards_apply (k : Fin 676) (b : Fin 256) :
    (after hostOps1 V (Proc.devRef .tc main_v38) : Vec Ideal S677x256 .bf16) (ix2 k.castSucc b) = hands V b k := by
  after_results
  pointwise [Model.handsOf]
  exact dif_pos k.isLt

theorem cards_last (b : Fin 256) :
    (after hostOps1 V (Proc.devRef .tc main_v38) : Vec Ideal S677x256 .bf16) (ix2 (Fin.last 676) b) = (1 : EReal) := by
  generalize hi : Fin.last 676 = i₀
  have hn : ¬ i₀.val < 676 := by rw [← hi]; exact lt_irrefl 676
  clear hi
  after_results
  pointwise
  exact dif_neg hn

theorem w1_apply (i : Fin 2704) (k : Fin 676) :
    (after hostOps1 V (Proc.devRef .tc main_v41) : Vec Ideal S2704x677 .bf16) (ix2 i k.castSucc) = (dense V).w1 i k := by
  after_results
  pointwise [Model.denseOf]
  exact dif_pos k.isLt

theorem w1_last (i : Fin 2704) :
    (after hostOps1 V (Proc.devRef .tc main_v41) : Vec Ideal S2704x677 .bf16) (ix2 i (Fin.last 676)) = (dense V).b1 i := by
  generalize hi : Fin.last 676 = i₀
  have hn : ¬ i₀.val < 676 := by rw [← hi]; exact lt_irrefl 676
  clear hi
  after_results
  pointwise [Model.denseOf]
  exact dif_neg hn

theorem w2_apply (a : Fin 1352) (i : Fin 2704) :
    (after hostOps1 V (Proc.devRef .tc main_v44) : Vec Ideal S1352x2705 .bf16) (ix2 a i.castSucc) = (dense V).w2 a i := by
  after_results
  pointwise [Model.denseOf]
  exact dif_pos i.isLt

theorem w2_last (a : Fin 1352) :
    (after hostOps1 V (Proc.devRef .tc main_v44) : Vec Ideal S1352x2705 .bf16) (ix2 a (Fin.last 2704)) = (dense V).b2 a := by
  generalize hi : Fin.last 2704 = i₀
  have hn : ¬ i₀.val < 2704 := by rw [← hi]; exact lt_irrefl 2704
  clear hi
  after_results
  pointwise [Model.denseOf]
  exact dif_neg hn

theorem wd_apply (a : Fin 1352) (i : Fin 2704) :
    (after hostOps1 V (Proc.devRef .tc main_v47) : Vec Ideal S1352x2705 .bf16) (ix2 a i.castSucc) = (dense V).wd a i := by
  after_results
  pointwise [Model.denseOf]
  exact dif_pos i.isLt

theorem wd_last (a : Fin 1352) :
    (after hostOps1 V (Proc.devRef .tc main_v47) : Vec Ideal S1352x2705 .bf16) (ix2 a (Fin.last 2704)) = (dense V).bd a := by
  generalize hi : Fin.last 2704 = i₀
  have hn : ¬ i₀.val < 2704 := by rw [← hi]; exact lt_irrefl 2704
  clear hi
  after_results
  pointwise [Model.denseOf]
  exact dif_neg hn

/-! ## After the regions -/

theorem result_apply (b : Fin 256) (a : Fin 1352) :
    (after hostOps2 V (Proc.devRef .tc main_v49) : Vec Ideal S256x1352 .f32) (ix2 b a)
      = (V (Proc.devRef .tc main_v48) : Vec Ideal S1352x256 .f32) (ix2 a b) := by
  after_results
  pointwise

end Cert.HostIdeal

end
-- ==== Proof.Value.Kernel.lean ====
/-
  The kernel's program at exact reals: whatever it is launched with, its result is the network's, entry by entry.
-/
module

public import proofs.«01_k».proof.Proof.Run.Launch
public import proofs.«01_k».proof.Proof.Value.HeadOut
public import proofs.«01_k».proof.Proof.Value.Host
public import Idealize.ShloMosaic.Lib.Pipeline.ValueKit

@[expose] public section

noncomputable section

namespace Cert.Run

open Idealize.ShloMosaic Idealize.ShloMosaic.TcCoe Cert.KernelIdeal Cert.KernelIdeal.Gen

/-- The one point of the recurrent region's grid. -/
abbrev p0 : Fin cfg0.N := ⟨0, by decide +kernel⟩
/-- The one point of the head region's grid. -/
abbrev p1 : Fin cfg1.N := ⟨0, by decide +kernel⟩

variable (V : (c : Dev nD) → (b : Ref sig .tc) → Buf (Elt Ideal) ((c : Thread nD τ).loc b)) (c : Dev nD)

/-! ## The blocks are the whole arrays -/

theorem blk0_0 (t : Fin cfg0.N) (j : S52x53x256.Idx) : (ops0 V c t).seq j = (V c main_v4 : Vec Ideal S52x53x256 .bf16) j := by
  have e : ∀ (t : Fin cfg0.N) (a : Fin 3), win0_0.index t a = 0 := by decide +kernel
  unfold ops0 blk0; dsimp only; blk_ext [e]
theorem blk0_1 (t : Fin cfg0.N) (j : S2704x53.Idx) : (ops0 V c t).ir j = (V c main_v11 : Vec Ideal S2704x53 .bf16) j := by
  have e : ∀ (t : Fin cfg0.N) (a : Fin 2), win0_1.index t a = 0 := by decide +kernel
  unfold ops0 blk0; dsimp only; blk_ext [e]
theorem blk0_2 (t : Fin cfg0.N) (j : S2704x53.Idx) : (ops0 V c t).iz j = (V c main_v18 : Vec Ideal S2704x53 .bf16) j := by
  have e : ∀ (t : Fin cfg0.N) (a : Fin 2), win0_2.index t a = 0 := by decide +kernel
  unfold ops0 blk0; dsimp only; blk_ext [e]
theorem blk0_3 (t : Fin cfg0.N) (j : S2704x53.Idx) : (ops0 V c t).ig j = (V c main_v23 : Vec Ideal S2704x53 .bf16) j := by
  have e : ∀ (t : Fin cfg0.N) (a : Fin 2), win0_3.index t a = 0 := by decide +kernel
  unfold ops0 blk0; dsimp only; blk_ext [e]
theorem blk0_4 (t : Fin cfg0.N) (j : S2704x2704.Idx) : (ops0 V c t).hr j = (V c main_v25 : Vec Ideal S2704x2704 .bf16) j := by
  have e : ∀ (t : Fin cfg0.N) (a : Fin 2), win0_4.index t a = 0 := by decide +kernel
  unfold ops0 blk0; dsimp only; blk_ext [e]
theorem blk0_5 (t : Fin cfg0.N) (j : S2704x2704.Idx) : (ops0 V c t).hz j = (V c main_v27 : Vec Ideal S2704x2704 .bf16) j := by
  have e : ∀ (t : Fin cfg0.N) (a : Fin 2), win0_5.index t a = 0 := by decide +kernel
  unfold ops0 blk0; dsimp only; blk_ext [e]
theorem blk0_6 (t : Fin cfg0.N) (j : S2704x2705.Idx) : (ops0 V c t).hg j = (V c main_v32 : Vec Ideal S2704x2705 .bf16) j := by
  have e : ∀ (t : Fin cfg0.N) (a : Fin 2), win0_6.index t a = 0 := by decide +kernel
  unfold ops0 blk0; dsimp only; blk_ext [e]

theorem blk1_0 (t : Fin cfg1.N) (j : S677x256.Idx) : (ops1 V c t).cards j = (V c main_v38 : Vec Ideal S677x256 .bf16) j := by
  have e : ∀ (t : Fin cfg1.N) (a : Fin 2), win1_0.index t a = 0 := by decide +kernel
  unfold ops1 blk1; dsimp only; blk_ext [e]
theorem blk1_1 (t : Fin cfg1.N) (j : S2705x256.Idx) : (ops1 V c t).hid j = (V c main_v33_0 : Vec Ideal S2705x256 .f32) j := by
  have e : ∀ (t : Fin cfg1.N) (a : Fin 2), win1_1.index t a = 0 := by decide +kernel
  unfold ops1 blk1; dsimp only; blk_ext [e]
theorem blk1_2 (t : Fin cfg1.N) (j : S1x256.Idx) : (ops1 V c t).mask j = (V c main_v33_1 : Vec Ideal S1x256 .i32) j := by
  have e : ∀ (t : Fin cfg1.N) (a : Fin 2), win1_2.index t a = 0 := by decide +kernel
  unfold ops1 blk1; dsimp only; blk_ext [e]
theorem blk1_3 (t : Fin cfg1.N) (j : S2704x677.Idx) : (ops1 V c t).w1 j = (V c main_v41 : Vec Ideal S2704x677 .bf16) j := by
  have e : ∀ (t : Fin cfg1.N) (a : Fin 2), win1_3.index t a = 0 := by decide +kernel
  unfold ops1 blk1; dsimp only; blk_ext [e]
theorem blk1_4 (t : Fin cfg1.N) (j : S1352x2705.Idx) : (ops1 V c t).w2 j = (V c main_v44 : Vec Ideal S1352x2705 .bf16) j := by
  have e : ∀ (t : Fin cfg1.N) (a : Fin 2), win1_4.index t a = 0 := by decide +kernel
  unfold ops1 blk1; dsimp only; blk_ext [e]
theorem blk1_5 (t : Fin cfg1.N) (j : S1352x2705.Idx) : (ops1 V c t).wdp j = (V c main_v47 : Vec Ideal S1352x2705 .bf16) j := by
  have e : ∀ (t : Fin cfg1.N) (a : Fin 2), win1_5.index t a = 0 := by decide +kernel
  unfold ops1 blk1; dsimp only; blk_ext [e]

/-! ## What the regions leave -/

theorem arr0_7 (j : S2705x256.Idx) :
    ((data0 V c).arrAt 7 cfg0.N : Vec Ideal S2705x256 .f32) j = Gru.withOnes (Gru.state (ops0 V c p0) k0_t1_loop.trips).1 j := by
  refine ((data0 V c).arrAt_emb_eq_after_last 7 p0 (by decide +kernel) j).trans ?_
  rw [after0_7]; rfl
theorem arr0_8 (j : S1x256.Idx) : ((data0 V c).arrAt 8 cfg0.N : Vec Ideal S1x256 .i32) j = Gru.mask (ops0 V c p0) j := by
  refine ((data0 V c).arrAt_emb_eq_after_last 8 p0 (by decide +kernel) j).trans ?_
  rw [after0_8]; rfl
theorem arr1_6 (j : S1352x256.Idx) : ((data1 V c).arrAt 6 cfg1.N : Vec Ideal S1352x256 .f32) j = Head.out (ops1 V c p1) j := by
  refine ((data1 V c).arrAt_emb_eq_after_last 6 p1 (by decide +kernel) j).trans ?_
  rw [after1_6]; rfl

variable (m : (ℓ : Loc nD τ sig) → Buf (Elt Ideal) ℓ) (ρ : Dev nD → PrngReg)

/-- The recurrent region reads the piles and the recurrence's parameters. -/
theorem gru_reads : Gru.Reads (ops0 (V1 m ρ) c p0) (HostIdeal.gru (W0 m ρ c)) (HostIdeal.piles (W0 m ρ c)) where
  seq t k b := (blk0_0 _ c p0 _).trans (HostIdeal.seq_apply (W0 m ρ c) t k b)
  seq1 t b := (blk0_0 _ c p0 _).trans (HostIdeal.seq_last (W0 m ρ c) t b)
  ir j k := (blk0_1 _ c p0 _).trans (HostIdeal.ir_apply (W0 m ρ c) j k)
  irb j := (blk0_1 _ c p0 _).trans (HostIdeal.ir_last (W0 m ρ c) j)
  iz j k := (blk0_2 _ c p0 _).trans (HostIdeal.iz_apply (W0 m ρ c) j k)
  izb j := (blk0_2 _ c p0 _).trans (HostIdeal.iz_last (W0 m ρ c) j)
  ig j k := (blk0_3 _ c p0 _).trans (HostIdeal.ig_apply (W0 m ρ c) j k)
  igb j := (blk0_3 _ c p0 _).trans (HostIdeal.ig_last (W0 m ρ c) j)
  hr j k := (blk0_4 _ c p0 _).trans (HostIdeal.hr_apply (W0 m ρ c) j k)
  hz j k := (blk0_5 _ c p0 _).trans (HostIdeal.hz_apply (W0 m ρ c) j k)
  hg j k := (blk0_6 _ c p0 _).trans (HostIdeal.hg_apply (W0 m ρ c) j k)
  hgb j := (blk0_6 _ c p0 _).trans (HostIdeal.hg_last (W0 m ρ c) j)

/-- An argument is as launched when the second stretch reads it. -/
theorem W2_arg (a : Ref sig .tc) (ha : a ∈ argRefs) : W2 m ρ c (Proc.devRef .tc a) = W0 m ρ c (Proc.devRef .tc a) :=
  (W2_args m ρ c a ha).trans (W0_args m ρ c a ha).symm

theorem hands_eq : HostIdeal.hands (W2 m ρ c) = HostIdeal.hands (W0 m ρ c) := by
  unfold HostIdeal.hands; rw [W2_arg c m ρ main_arg0 (by simp)]
theorem dense_eq : HostIdeal.dense (W2 m ρ c) = HostIdeal.dense (W0 m ρ c) := by
  unfold HostIdeal.dense
  rw [W2_arg c m ρ main_arg2 (by simp), W2_arg c m ρ main_arg3 (by simp), W2_arg c m ρ main_arg4 (by simp),
    W2_arg c m ρ main_arg5 (by simp), W2_arg c m ρ main_arg10 (by simp), W2_arg c m ρ main_arg11 (by simp)]

/-- The hidden rows as the head finds them. -/
theorem hid_eq : W3 m ρ c (Proc.devRef .tc main_v33_0) = (data0 (V1 m ρ) c).arrAt 7 cfg0.N :=
  (W3_of m ρ c main_v33_0 (by decide)).trans (W2_arr m ρ c 7)
/-- The mask as the head finds it. -/
theorem mask_eq : W3 m ρ c (Proc.devRef .tc main_v33_1) = (data0 (V1 m ρ) c).arrAt 8 cfg0.N :=
  (W3_of m ρ c main_v33_1 (by decide)).trans (W2_arr m ρ c 8)

/-- The loop makes all 52 trips. -/
theorem trips_eq : k0_t1_loop.trips = 52 := by decide +kernel

/-- The head reads the hands, the hidden state at the end of the recurrence, and the dense layers' parameters. -/
theorem head_reads : Head.Reads (ops1 (V3 m ρ) c p1) (HostIdeal.gru (W0 m ρ c)) (HostIdeal.dense (W0 m ρ c))
    (HostIdeal.hands (W0 m ρ c)) (HostIdeal.piles (W0 m ρ c)) where
  cards k b := (blk1_0 _ c p1 _).trans ((HostIdeal.cards_apply (W2 m ρ c) k b).trans (by rw [hands_eq]))
  cards1 b := (blk1_0 _ c p1 _).trans (HostIdeal.cards_last (W2 m ρ c) b)
  hid j b := by
    refine (blk1_1 _ c p1 _).trans ((congrFun (hid_eq c m ρ) _).trans ((arr0_7 _ c _).trans ?_))
    rw [Gru.withOnes_row _ j _ rfl b, trips_eq]
    exact (Gru.state_apply (gru_reads c m ρ) b 52 le_rfl).1 j
  hid1 b := (blk1_1 _ c p1 _).trans ((congrFun (hid_eq c m ρ) _).trans ((arr0_7 _ c _).trans (Gru.withOnes_last _ b)))
  mask b := (blk1_2 _ c p1 _).trans ((congrFun (mask_eq c m ρ) _).trans ((arr0_8 _ c _).trans (Gru.mask_apply (gru_reads c m ρ) b)))
  w1 i k := (blk1_3 _ c p1 _).trans ((HostIdeal.w1_apply (W2 m ρ c) i k).trans (by rw [dense_eq]))
  b1 i := (blk1_3 _ c p1 _).trans ((HostIdeal.w1_last (W2 m ρ c) i).trans (by rw [dense_eq]))
  w2 a i := (blk1_4 _ c p1 _).trans ((HostIdeal.w2_apply (W2 m ρ c) a i).trans (by rw [dense_eq]))
  b2 a := (blk1_4 _ c p1 _).trans ((HostIdeal.w2_last (W2 m ρ c) a).trans (by rw [dense_eq]))
  wd a i := (blk1_5 _ c p1 _).trans ((HostIdeal.wd_apply (W2 m ρ c) a i).trans (by rw [dense_eq]))
  bd a := (blk1_5 _ c p1 _).trans ((HostIdeal.wd_last (W2 m ρ c) a).trans (by rw [dense_eq]))

/-- THE KERNEL'S RESULT. -/
theorem result_apply (b : Fin 256) (a : Fin 1352) :
    (W5 m ρ c (Proc.devRef .tc main_v49) : Vec Ideal S256x1352 .f32) (ix2 b a)
      = Model.net (HostIdeal.gru (W0 m ρ c)) (HostIdeal.dense (W0 m ρ c)) (HostIdeal.hands (W0 m ρ c) b)
          (HostIdeal.piles (W0 m ρ c) b) a :=
  (HostIdeal.result_apply (W4 m ρ c) b a).trans ((congrFun (W4_arr m ρ c 6) _).trans
    ((arr1_6 _ c _).trans (Head.out_apply (head_reads c m ρ) a b)))

end Cert.Run

end
-- ==== Proof.Value.RefHost.lean ====
/-
  What the reference's operations before its loop leave in the arrays the loop and the result read, at an index.
-/
module

public import proofs.«01_k».proof.Proof.Gen.ReferenceIdeal.Run
public import proofs.«01_k».proof.Proof.Model.Args

@[expose] public section

set_option maxRecDepth 100000

noncomputable section

namespace Cert.Ref

open Idealize.ShloMosaic Idealize.ShloMosaic.TcCoe Idealize.ShloMosaic.StableHlo
open Cert.ReferenceIdeal Cert.ReferenceIdeal.Gen Cert.ReferenceIdeal.Value

variable (V : Valuation τ sig (Elt Ideal))

/-- The recurrence's parameters off the arguments. -/
abbrev gru : Model.Gru := Model.gruOf (V (Proc.devRef .tc main_arg6)) (V (Proc.devRef .tc main_arg7))
  (V (Proc.devRef .tc main_arg8)) (V (Proc.devRef .tc main_arg9))
/-- The dense layers' parameters off the arguments. -/
abbrev dense : Model.Dense := Model.denseOf (V (Proc.devRef .tc main_arg2)) (V (Proc.devRef .tc main_arg3))
  (V (Proc.devRef .tc main_arg4)) (V (Proc.devRef .tc main_arg5)) (V (Proc.devRef .tc main_arg10)) (V (Proc.devRef .tc main_arg11))
/-- The piles off the arguments. -/
abbrev piles : Fin 256 → Fin 52 → Fin 52 → EReal := Model.pilesOf (V (Proc.devRef .tc main_arg1))
/-- The hands off the arguments. -/
abbrev hands : Fin 256 → Fin 676 → EReal := Model.handsOf (V (Proc.devRef .tc main_arg0))

/-- An entry of a matrix of reals. -/
abbrev at2 {n k : ℕ} (x : Vec Ideal ⟨2, ![n, k]⟩ .f32) (i : Fin n) (j : Fin k) : EReal := x (ix2 i j)

/-! ## The two layers over the hand -/

theorem lin_apply (b : Fin 256) (i : Fin 2704) :
    (after hostOps0 V (Proc.devRef .tc main_v5) : Vec Ideal S256x2704 .f32) (ix2 b i)
      = (∑ k, (dense V).w1 i k * hands V b k) + (dense V).b1 i := by
  after_results
  pointwise [Model.handsOf, Model.denseOf]
  exact congrArg (· + _) (Finset.sum_congr rfl fun k _ => mul_comm _ _)

theorem cut_apply (b : Fin 256) (i : Fin 2704) :
    (after hostOps0_1 V (Proc.devRef .tc main_v6) : Vec Ideal S256x2704 .f32) (ix2 b i)
      = max (at2 (V (Proc.devRef .tc main_v5) : Vec Ideal S256x2704 .f32) b i) 0 := by
  after_results
  show maximumf (F := Ideal) (φ := .f32) (V (Proc.devRef .tc main_v5) : Vec Ideal S256x2704 .f32)
    (broadcastInDim S256x2704 ![] bcast_S_S256x2704 (constant S_ .f32 0x00000000#32)) (ix2 b i) = _
  pointwise [at2]

theorem lin2_apply (b : Fin 256) (a : Fin 1352) :
    (after hostOps0_2 V (Proc.devRef .tc main_v11) : Vec Ideal S256x1352 .f32) (ix2 b a)
      = (∑ i, (dense V).w2 a i * at2 (V (Proc.devRef .tc main_v6) : Vec Ideal S256x2704 .f32) b i) + (dense V).b2 a := by
  after_results
  pointwise [Model.denseOf]
  exact congrArg (· + _) (Finset.sum_congr rfl fun k _ => mul_comm _ _)

/-! ## The empty slices -/

theorem empty_apply (b : Fin 256) (t : Fin 52) :
    (after hostOps0_2 V (Proc.devRef .tc main_v15) : Vec Ideal S256x52 .i1) (ix2 b t)
      = BitVec.ofBool (decide (∑ k, piles V b t k = 0)) := by
  after_results
  pointwise [Model.pilesOf]

theorem some_apply (b : Fin 256) :
    (after hostOps0_2 V (Proc.devRef .tc main_v16) : Vec Ideal S256 .i1) (ix1 b)
      = Finset.fold IntOp.ori (0#1) (fun t => BitVec.ofBool (decide (∑ k, piles V b t k = 0))) Finset.univ := by
  after_results
  pointwise [Model.pilesOf]

theorem first_read (b : Fin 256) :
    (after hostOps0_3 V (Proc.devRef .tc main_v17) : Vec Ideal S256 .i32) (ix1 b)
      = (Host.reduce2 reducer_argmax_i1_i32 (V (Proc.devRef .tc main_v15) : Vec Ideal S256x52 .i1) (iotaInDim S256x52 32 1)
          (constantI S_ 1 0#1) (constantI S_ 32 0#32) reducesTo_S256x52_S256_d1 h_S_ (ix1 b)).2 := by
  after_results
  rfl

theorem zero_read : (after hostOps0_4 V (Proc.devRef .tc main_c_1) : Vec Ideal S_ .i32) = constantI S_ 32 0#32 := by
  after_results

theorem stop_read (h : (V (Proc.devRef .tc main_c_1) : Vec Ideal S_ .i32) = constantI S_ 32 0#32) (b : Fin 256) :
    (after hostOps0_5 V (Proc.devRef .tc main_v18) : Vec Ideal S256 .i32) (ix1 b)
      = Scalar.select ((V (Proc.devRef .tc main_v16) : Vec Ideal S256 .i1) (ix1 b))
          ((V (Proc.devRef .tc main_v17) : Vec Ideal S256 .i32) (ix1 b))
          (0#32) := by
  after_results
  show select (V (Proc.devRef .tc main_v16) : Vec Ideal S256 .i1) (V (Proc.devRef .tc main_v17) : Vec Ideal S256 .i32)
    (broadcastInDim S256 ![] bcast_S_S256 (V (Proc.devRef .tc main_c_1) : Vec Ideal S_ .i32)) (ix1 b) = _
  rw [h, ValueIdx.select_apply]
  rfl

/-! ## The loop's operands -/

theorem seq_apply (t k : Fin 52) (b : Fin 256) :
    (after hostOps0_6 V (Proc.devRef .tc main_v30_0) : Vec Ideal S52x256x52 .f32) (ix3 t b k) = piles V b t k := by
  after_results
  simp only [id]
  pointwise [Model.pilesOf]

theorem zeros_apply (b : Fin 256) (j : Fin 2704) :
    (after hostOps0_6 V (Proc.devRef .tc main_v30_7) : Vec Ideal S256x2704 .f32) (ix2 b j) = (0 : EReal) := by
  after_results
  simp only [id]
  pointwise

theorem flag_read (t : Fin 52) (b : Fin 256) :
    (after hostOps0_6 V (Proc.devRef .tc main_v30_1) : Vec Ideal S52x256 .i1) (ix2 t b)
      = IntOp.cmpi .slt (BitVec.ofNat 32 t.val) ((V (Proc.devRef .tc main_v18) : Vec Ideal S256 .i32) (ix1 b)) := by
  after_results
  simp only [id]
  pointwise

theorem some_first_read (b : Fin 256) :
    (after hostOps0_6 V (Proc.devRef .tc main_v20) : Vec Ideal S256 .i1) (ix1 b)
      = IntOp.cmpi .sgt ((V (Proc.devRef .tc main_v18) : Vec Ideal S256 .i32) (ix1 b)) (0#32) := by
  after_results
  pointwise

theorem wih_read : after hostOps0_6 V (Proc.devRef .tc main_v30_2) = V (Proc.devRef .tc main_arg6) := by
  after_results
  rfl
theorem bih_read : after hostOps0_6 V (Proc.devRef .tc main_v30_3) = V (Proc.devRef .tc main_arg8) := by
  after_results
  rfl
theorem whh_read : after hostOps0_6 V (Proc.devRef .tc main_v30_4) = V (Proc.devRef .tc main_arg7) := by
  after_results
  rfl
theorem bhh_read : after hostOps0_6 V (Proc.devRef .tc main_v30_5) = V (Proc.devRef .tc main_arg9) := by
  after_results
  rfl

/-! ## After the loop -/

theorem out_apply (b : Fin 256) (a : Fin 1352) :
    (after hostOps0_8 (after hostOps0_7 V) (Proc.devRef .tc main_v42) : Vec Ideal S256x1352 .f32) (ix2 b a)
      = Scalar.select ((V (Proc.devRef .tc main_v20) : Vec Ideal S256 .i1) (ix1 b))
          (Ideal.ofBits .f32 0x3E99999A#32 * at2 (V (Proc.devRef .tc main_v11) : Vec Ideal S256x1352 .f32) b a
            + Ideal.ofBits .f32 0x3F333333#32
              * (dense V).pile (at2 (V (Proc.devRef .tc main_v30_7) : Vec Ideal S256x2704 .f32) b) a)
          (at2 (V (Proc.devRef .tc main_v11) : Vec Ideal S256x1352 .f32) b a) := by
  have e : (dense V).pile (at2 (V (Proc.devRef .tc main_v30_7) : Vec Ideal S256x2704 .f32) b) a
      = (∑ i, at2 (V (Proc.devRef .tc main_v30_7) : Vec Ideal S256x2704 .f32) b i
          * at2 (V (Proc.devRef .tc main_arg10) : Vec Ideal S1352x2704 .f32) a i)
        + (dense V).bd a :=
    congrArg (· + _) (Finset.sum_congr rfl fun k _ => mul_comm _ _)
  have h7 : (after hostOps0_7 V (Proc.devRef .tc main_v41) : Vec Ideal S256x1352 .f32) (ix2 b a)
      = Ideal.ofBits .f32 0x3E99999A#32 * at2 (V (Proc.devRef .tc main_v11) : Vec Ideal S256x1352 .f32) b a
            + Ideal.ofBits .f32 0x3F333333#32
              * (dense V).pile (at2 (V (Proc.devRef .tc main_v30_7) : Vec Ideal S256x2704 .f32) b) a := by
    rw [e]
    after_results
    pointwise [at2, Model.denseOf]
  have h6 : (after hostOps0_7 V (Proc.devRef .tc main_v36) : Vec Ideal S256x1 .i1) (ix2 b 0)
      = (V (Proc.devRef .tc main_v20) : Vec Ideal S256 .i1) (ix1 b) := by
    after_results
    pointwise
  have h1 : after hostOps0_7 V (Proc.devRef .tc main_v11) = V (Proc.devRef .tc main_v11) := by
    after_results
  have h8 : ∀ X : Valuation τ sig (Elt Ideal),
      (after hostOps0_8 X (Proc.devRef .tc main_v42) : Vec Ideal S256x1352 .f32) (ix2 b a)
      = Scalar.select ((X (Proc.devRef .tc main_v36) : Vec Ideal S256x1 .i1) (ix2 b 0))
          ((X (Proc.devRef .tc main_v41) : Vec Ideal S256x1352 .f32) (ix2 b a))
          ((X (Proc.devRef .tc main_v11) : Vec Ideal S256x1352 .f32) (ix2 b a)) := by
    intro X
    after_results
    show select (broadcastInDim S256x1352 ![0, 1] bcast_S256x1_S256x1352_0_1 (X (Proc.devRef .tc main_v36) : Vec Ideal S256x1 .i1))
      (X (Proc.devRef .tc main_v41) : Vec Ideal S256x1352 .f32) (X (Proc.devRef .tc main_v11) : Vec Ideal S256x1352 .f32) (ix2 b a) = _
    pointwise
  rw [h8, h7, h6, h1]

end Cert.Ref

end
-- ==== Proof.Value.RefTrip.lean ====
/-
  One trip of the reference's loop at exact reals, entry by entry: where the step's flag stands the hidden state takes the
  model's step, elsewhere it stays.
-/
module

public import proofs.«01_k».proof.Proof.Gen.ReferenceIdeal.Run
public import proofs.«01_k».proof.Proof.Model.Args
public import Idealize.ShloMosaic.Lib.DynamicIndex
public import Idealize.ShloMosaic.Lib.WordArith.Masks

@[expose] public section

noncomputable section

namespace Cert.Ref

open Idealize.ShloMosaic Idealize.ShloMosaic.TcCoe Cert.ReferenceIdeal Cert.ReferenceIdeal.Gen Cert.ReferenceIdeal.Value

variable (V : Valuation τ sig (Elt Ideal))

/-- The recurrence's parameters the loop carries. -/
abbrev gruAt : Model.Gru := Model.gruOf (V (Proc.devRef .tc main_v30_2)) (V (Proc.devRef .tc main_v30_4))
  (V (Proc.devRef .tc main_v30_3)) (V (Proc.devRef .tc main_v30_5))
/-- The piles the loop carries, the steps first. -/
abbrev seqAt : Vec Ideal S52x256x52 .f32 := V (Proc.devRef .tc main_v30_0)
/-- The flags the loop carries, the steps first. -/
abbrev flagAt : Vec Ideal S52x256 .i1 := V (Proc.devRef .tc main_v30_1)
/-- The hidden state the loop carries. -/
abbrev hidAt : Vec Ideal S256x2704 .f32 := V (Proc.devRef .tc main_v30_7)

/-- The input gates of a trip. -/
abbrev gi (b : Fin 256) (i : Fin 8112) : EReal := (res_main_while0b_v49 V : Vec Ideal S256x8112 .f32) (ix2 b i)
/-- The hidden gates of a trip. -/
abbrev gh (b : Fin 256) (i : Fin 8112) : EReal := (res_main_while0b_v54 V : Vec Ideal S256x8112 .f32) (ix2 b i)
/-- The update gate of a trip. -/
abbrev zg (b : Fin 256) (j : Fin 2704) : EReal := (res_main_while0b_v74 V : Vec Ideal S256x2704 .f32) (ix2 b j)
/-- An entry of the hidden state. -/
abbrev hid (b : Fin 256) (j : Fin 2704) : EReal := hidAt V (ix2 b j)

section

variable (t : Fin 52) (ht : (V (Proc.devRef .tc main_v30_6) : Vec Ideal S_ .i32) = fun _ => Scf.iv 0#32 1#32 t.val)

include ht

/-- The counter as an integer. -/
theorem ctr_toInt (i : S_.Idx) : ((V (Proc.devRef .tc main_v30_6) : Vec Ideal S_ .i32) i).toInt = t.val := by
  have h := WordArith.toNat_iv_zero_one t.val (lt_trans t.isLt (by norm_num))
  rw [ht]
  rw [BitVec.toInt_eq_toNat_of_lt (by rw [h]; have := t.isLt; omega), h]

/-- The input gates. -/
theorem gi_apply (b : Fin 256) (i : Fin 8112) :
    gi V b i = (gruAt V).inp (fun k => seqAt V (ix3 t b k)) i := by
  have hoff : S52x256x52.Slices ![t.val, 0, 0] S1x256x52 := ⟨rfl, fun a => by
    have := t.isLt
    fin_cases a <;> simp <;> omega⟩
  unfold gi res_main_while0b_v49
  rw [Host.dynamicSlice_eq_extractStridedSlice _ _ _ ![t.val, 0, 0] _ hoff (fun a => by
    fin_cases a
    · exact ctr_toInt V t ht _
    · rfl
    · rfl)]
  simp only [Model.Gru.inp, gruAt, Model.gruOf, seqAt, gi]
  pointwise
  exact congrArg (· + _) (Finset.sum_congr rfl fun k _ => mul_comm _ _)

omit ht in
/-- The hidden gates. -/
theorem gh_apply (b : Fin 256) (i : Fin 8112) :
    gh V b i = (gruAt V).hid (fun k => hid V b k) i := by
  simp only [res_main_while0b_v54, Model.Gru.hid, gruAt, Model.gruOf, hid, hidAt, gh]
  pointwise
  exact congrArg (· + _) (Finset.sum_congr rfl fun k _ => mul_comm _ _)

/-- The step's flag of a pile. -/
theorem flag_apply (b : Fin 256) (j : Fin 2704) :
    (broadcastInDim S256x2704 ![0, 1] bcast_S256x1_S256x2704_0_1 (broadcastInDim S256x1 ![0] bcast_S256_S256x1_0
      (shapeCast S256 (Host.dynamicSlice S1x256 (V (Proc.devRef .tc main_v30_1) : Vec Ideal S52x256 .i1)
        (fun k => (((![V (Proc.devRef .tc main_v30_6), constantI S_ 32 0#32] : Fin 2 → (⟨S_, .i32⟩ : BufTy).Contents (Elt Ideal))) k
          (Shape.Idx.first h_S_)).toInt) sliceFits_S52x256_S1x256) shapeCasts_S1x256_S256))) (ix2 b j)
      = flagAt V (ix2 t b) := by
  have hoff : S52x256.Slices ![t.val, 0] S1x256 := ⟨rfl, fun a => by
    have := t.isLt
    fin_cases a <;> simp <;> omega⟩
  rw [Host.dynamicSlice_eq_extractStridedSlice _ _ _ ![t.val, 0] _ hoff (fun a => by
    fin_cases a
    · exact ctr_toInt V t ht _
    · rfl)]
  unfold flagAt
  pointwise

/-- The update gate. -/
theorem z_apply (b : Fin 256) (j : Fin 2704) :
    zg V b j
      = (gruAt V).update (fun k => seqAt V (ix3 t b k)) (fun k => hid V b k) j := by
  have e : zg V b j
      = Ideal.div 1 (1 + Ideal.exp (-(gi V b (Model.row 1 j)
          + gh V b (Model.row 1 j)))) := by
    pointwise [zg, gi, gh, res_main_while0b_v74, Model.row]
  rw [e, gi_apply V t ht, gh_apply V]; rfl

/-- THE TRIP. -/
theorem step_apply (b : Fin 256) (j : Fin 2704) :
    (step_main_v30_7 V : Vec Ideal S256x2704 .f32) (ix2 b j)
      = Scalar.select (flagAt V (ix2 t b))
          ((gruAt V).cell (fun k => seqAt V (ix3 t b k)) (fun k => hid V b k) j) (hid V b j) := by
  have e : (step_main_v30_7 V : Vec Ideal S256x2704 .f32) (ix2 b j)
      = Scalar.select (flagAt V (ix2 t b))
          ((1 - zg V b j)
            * Ideal.tanh (gi V b (Model.row 2 j)
              + Ideal.div 1 (1 + Ideal.exp (-(gi V b (Model.row 0 j)
                  + gh V b (Model.row 0 j))))
                * gh V b (Model.row 2 j))
            + zg V b j * hid V b j)
          (hid V b j) := by
    rw [← flag_apply V t ht b j]
    unfold step_main_v30_7
    simp only [id]
    rw [ValueIdx.select_apply]
    congr 1
    unfold hid hidAt gi gh zg
    pointwise [Model.row]
  rw [e, z_apply V t ht, gi_apply V t ht, gi_apply V t ht, gh_apply V, gh_apply V]; rfl

end

end Cert.Ref

end
-- ==== Proof.Value.FirstSet.lean ====
/-
  The reference's arg-max over a row of bits: where a bit of the row is set, it is the place of the first set one.
-/
module

public import proofs.«01_k».proof.Proof.Gen.ReferenceIdeal.Run
public import Idealize.ShloMosaic.Lib.Pointwise
public import Idealize.ShloMosaic.Lib.WordArith

@[expose] public section

noncomputable section

namespace Cert.Ref

open Idealize.ShloMosaic Cert.ReferenceIdeal Cert.ReferenceIdeal.Gen

/-- The body keeps one of its two pairs. -/
theorem argmax_mem (p q : BitVec 1 × BitVec 32) : reducer_argmax_i1_i32 p q = p ∨ reducer_argmax_i1_i32 p q = q := by
  obtain ⟨a, i⟩ := p
  obtain ⟨b, j⟩ := q
  rcases BitVec.eq_zero_or_eq_one a with rfl | rfl <;> rcases BitVec.eq_zero_or_eq_one b with rfl | rfl <;>
    by_cases h : i.slt j <;>
    simp [reducer_argmax_i1_i32, IntOp.cmpi, IntOp.ori, IntOp.andi, Scalar.select, h]

/-- The pair it keeps has its bit set if the left one has, and then a place no later. -/
theorem argmax_left (p q : BitVec 1 × BitVec 32) (h : p.1 = 1#1) :
    (reducer_argmax_i1_i32 p q).1 = 1#1 ∧ (reducer_argmax_i1_i32 p q).2.toInt ≤ p.2.toInt := by
  obtain ⟨a, i⟩ := p
  obtain ⟨b, j⟩ := q
  obtain rfl : a = 1#1 := h
  rcases BitVec.eq_zero_or_eq_one b with rfl | rfl <;>
    by_cases h : i.toInt < j.toInt <;>
    simp [reducer_argmax_i1_i32, IntOp.cmpi, IntOp.ori, IntOp.andi, Scalar.select, BitVec.slt, h] <;> omega

/-- And likewise of the right one. -/
theorem argmax_right (p q : BitVec 1 × BitVec 32) (h : q.1 = 1#1) :
    (reducer_argmax_i1_i32 p q).1 = 1#1 ∧ (reducer_argmax_i1_i32 p q).2.toInt ≤ q.2.toInt := by
  obtain ⟨a, i⟩ := p
  obtain ⟨b, j⟩ := q
  obtain rfl : b = 1#1 := h
  rcases BitVec.eq_zero_or_eq_one a with rfl | rfl <;>
    by_cases h : i.toInt < j.toInt <;>
    simp [reducer_argmax_i1_i32, IntOp.cmpi, IntOp.ori, IntOp.andi, Scalar.select, BitVec.slt, h] <;> omega

/-- The fold over a list of pairs: one of them, and if any has its bit set then so has it, at a place no later. -/
theorem argmax_foldl : ∀ (L : List (BitVec 1 × BitVec 32)) (p : BitVec 1 × BitVec 32),
    L.foldl reducer_argmax_i1_i32 p ∈ p :: L ∧
      ∀ q ∈ p :: L, q.1 = 1#1 → (L.foldl reducer_argmax_i1_i32 p).1 = 1#1 ∧ (L.foldl reducer_argmax_i1_i32 p).2.toInt ≤ q.2.toInt
  | [], p => ⟨List.mem_cons_self, fun q hq h => by
      obtain rfl : q = p := List.mem_singleton.mp hq
      exact ⟨h, le_rfl⟩⟩
  | a :: L, p => by
    obtain ⟨hm, hl⟩ := argmax_foldl L (reducer_argmax_i1_i32 p a)
    rw [List.foldl_cons]
    refine ⟨?_, fun q hq h => ?_⟩
    · rcases List.mem_cons.mp hm with e | e
      · rw [e]
        rcases argmax_mem p a with e | e <;> rw [e] <;> simp
      · simp [e]
    · rcases List.mem_cons.mp hq with rfl | hq
      · have h1 := argmax_left q a h
        have h2 := hl _ List.mem_cons_self h1.1
        exact ⟨h2.1, h2.2.trans h1.2⟩
      · rcases List.mem_cons.mp hq with rfl | hq
        · have h1 := argmax_right p q h
          have h2 := hl _ List.mem_cons_self h1.1
          exact ⟨h2.1, h2.2.trans h1.2⟩
        · exact hl q (List.mem_cons_of_mem _ hq) h

/-- An index of the bits goes, on dropping its place, to its row. -/
theorem drop_row (i : S256x52.Idx) (b : Fin 256) :
    Shape.ReducesTo.drop reducesTo_S256x52_S256_d1 i = ix1 b ↔ i 0 = b := by
  have hv := Shape.ReducesTo.drop_apply_val_of_eq reducesTo_S256x52_S256_d1 i 0 0
  constructor
  · intro h
    rw [h] at hv
    exact Fin.ext hv.symm
  · intro h
    funext a
    obtain rfl : a = 0 := Subsingleton.elim _ _
    refine Fin.ext (hv.trans ?_)
    rw [h]; rfl

/-- The pairs of a row. -/
theorem mem_fiber (x : IVec S256x52 1) (y : IVec S256x52 32) (b : Fin 256) (q : BitVec 1 × BitVec 32) :
    q ∈ Host.argReduceFiber x y reducesTo_S256x52_S256_d1 (ix1 b) ↔ ∃ t : Fin 52, q = (x (ix2 b t), y (ix2 b t)) := by
  unfold Host.argReduceFiber
  simp only [List.mem_map, List.mem_filter, List.mem_finRange, true_and, decide_eq_true_eq, drop_row]
  constructor
  · rintro ⟨n, hn, rfl⟩
    generalize S256x52.rowMajor.symm n = i at hn ⊢
    refine ⟨i 1, ?_⟩
    have e : i = ix2 b (i 1) := by
      funext a
      fin_cases a
      · exact hn
      · rfl
    exact congrArg (fun i => (x i, y i)) e
  · rintro ⟨t, rfl⟩
    refine ⟨S256x52.rowMajor (ix2 b t), ?_, ?_⟩ <;> rw [Equiv.symm_apply_apply]
    rfl

/-- THE FIRST SET BIT: the arg-max of a row where bit `z` is the first one set is `z`. -/
theorem argmax_apply (x : IVec S256x52 1) (ix : IVec S_ 1) (iy : IVec S_ 32) (h0 : ∀ i, ix i = 0#1) (b : Fin 256) (z : Fin 52)
    (hz : x (ix2 b z) = 1#1) (hf : ∀ t : Fin 52, x (ix2 b t) = 1#1 → z ≤ t) :
    (Host.reduce2 reducer_argmax_i1_i32 x (iotaInDim S256x52 32 1) ix iy reducesTo_S256x52_S256_d1 h_S_ (ix1 b)).2
      = BitVec.ofNat 32 z.val := by
  rw [Host.reduce2_eq_foldl_fiber]
  obtain ⟨hm, hl⟩ := argmax_foldl (Host.argReduceFiber x (iotaInDim S256x52 32 1) reducesTo_S256x52_S256_d1 (ix1 b))
    (ix (Shape.Idx.first h_S_), iy (Shape.Idx.first h_S_))
  have hi : ∀ t : Fin 52, (iotaInDim S256x52 32 1 (ix2 b t) : BitVec 32) = BitVec.ofNat 32 t.val := fun t => rfl
  have hn : ∀ t : Fin 52, (BitVec.ofNat 32 t.val).toInt = t.val := fun t => by
    have := t.isLt
    rw [BitVec.toInt_eq_toNat_of_lt (by rw [BitVec.toNat_ofNat]; omega), BitVec.toNat_ofNat]; omega
  have h1 := hl _ (List.mem_cons_of_mem _ ((mem_fiber x _ b _).mpr ⟨z, rfl⟩)) hz
  rcases List.mem_cons.mp hm with e | e
  · rw [e, h0] at h1; exact absurd (show (0#1 : BitVec 1) = 1#1 from h1.1) (by decide)
  · obtain ⟨t, e⟩ := (mem_fiber x _ b _).mp e
    rw [e, hi, hi, hn, hn] at h1
    have h2 := hf t h1.1
    have h3 : t = z := le_antisymm (Fin.le_def.mpr (by exact_mod_cast h1.2)) h2
    rw [e, hi, h3]

end Cert.Ref

end
-- ==== Proof.Value.RefValue.lean ====
/-
  The reference's result at exact reals, where every pile has an empty slice: the model's network of the arguments.
-/
module

public import proofs.«01_k».proof.Proof.Value.RefHost
public import proofs.«01_k».proof.Proof.Value.RefTrip
public import proofs.«01_k».proof.Proof.Value.FirstSet
public import proofs.«01_k».proof.Proof.Ref.Keeps
public import Idealize.ShloMosaic.Lib.Routing.OpsOrder

@[expose] public section

set_option maxRecDepth 16384

noncomputable section

namespace Cert.Ref

open Idealize.ShloMosaic Idealize.ShloMosaic.TcCoe Idealize.ShloMosaic.StableHlo
open Cert.ReferenceIdeal Cert.ReferenceIdeal.Gen Cert.ReferenceIdeal.Value

/-! ## The first empty slice -/

/-- A pile with an empty slice has a first one. -/
theorem exists_first (P : Fin 52 → Fin 52 → EReal) (h : ∃ t, ∑ k, P t k = 0) :
    ∃ z : Fin 52, ∑ k, P z k = 0 ∧ ∀ t : Fin 52, ∑ k, P t k = 0 → z ≤ t := by
  classical
  have hn : (Finset.univ.filter fun t : Fin 52 => ∑ k, P t k = 0).Nonempty := by
    obtain ⟨t, ht⟩ := h
    exact ⟨t, Finset.mem_filter.mpr ⟨Finset.mem_univ _, ht⟩⟩
  refine ⟨Finset.min' _ hn, (Finset.mem_filter.mp (Finset.min'_mem _ hn)).2, fun t ht => ?_⟩
  exact Finset.min'_le _ t (Finset.mem_filter.mpr ⟨Finset.mem_univ t, ht⟩)

/-- The steps before the first empty slice are those the model calls live. -/
theorem live_iff (P : Fin 52 → Fin 52 → EReal) (z : Fin 52) (hz : ∑ k, P z k = 0)
    (hf : ∀ t : Fin 52, ∑ k, P t k = 0 → z ≤ t) (t : ℕ) : Model.live P t ↔ t < z.val := by
  constructor
  · intro h
    by_contra hn
    exact h z (Nat.not_lt.mp hn) hz
  · intro h s hs e
    exact absurd (Fin.le_def.mp (hf s e)) (by omega)

/-- A small word as an integer. -/
theorem small_toInt (t : Fin 52) : (BitVec.ofNat 32 t.val).toInt = t.val := by
  have := t.isLt
  rw [BitVec.toInt_eq_toNat_of_lt (by rw [BitVec.toNat_ofNat]; omega), BitVec.toNat_ofNat]; omega

/-! ## The stages before the loop -/

variable (V : Valuation τ sig (Elt Ideal))

/-- Up to the hand's first layer, cut. -/
abbrev V1 : Valuation τ sig (Elt Ideal) := after hostOps0_1 (after hostOps0 V)
/-- Up to the empty slices. -/
abbrev V2 : Valuation τ sig (Elt Ideal) := after hostOps0_2 (V1 V)
/-- Up to the first of them. -/
abbrev V3 : Valuation τ sig (Elt Ideal) := after hostOps0_4 (after hostOps0_3 (V2 V))
/-- Up to the stop. -/
abbrev V4 : Valuation τ sig (Elt Ideal) := after hostOps0_5 (V3 V)
/-- The loop's entry. -/
abbrev V5 : Valuation τ sig (Elt Ideal) := after hostOps0_6 (V4 V)

theorem keep1 (r : Ref sig .tc) (h0 : r ∉ hostOps0_W) (h1 : r ∉ hostOps0_1_W) : V1 V (Proc.devRef .tc r) = V (Proc.devRef .tc r) :=
  (after_of_writes_sub _ _ hostOps0_1_writes h1).trans (after_of_writes_sub _ _ hostOps0_writes h0)

theorem keep3 (r : Ref sig .tc) (h3 : r ∉ hostOps0_3_W) (h4 : r ∉ hostOps0_4_W) : V3 V (Proc.devRef .tc r) = V2 V (Proc.devRef .tc r) :=
  (after_of_writes_sub _ _ hostOps0_4_writes h4).trans (after_of_writes_sub _ _ hostOps0_3_writes h3)

theorem keep5 (r : Ref sig .tc) (h3 : r ∉ hostOps0_3_W) (h4 : r ∉ hostOps0_4_W) (h5 : r ∉ hostOps0_5_W) (h6 : r ∉ hostOps0_6_W) :
    V5 V (Proc.devRef .tc r) = V2 V (Proc.devRef .tc r) :=
  (after_of_writes_sub _ _ hostOps0_6_writes h6).trans ((after_of_writes_sub _ _ hostOps0_5_writes h5).trans (keep3 V r h3 h4))

/-- The arguments at the last stage but one. -/
theorem keep4_arg (r : Ref sig .tc) (h : r ∈ args) : V4 V (Proc.devRef .tc r) = V (Proc.devRef .tc r) := by
  have hd : ∀ r ∈ args, r ∉ hostOps0_W ∧ r ∉ hostOps0_1_W ∧ r ∉ hostOps0_2_W ∧ r ∉ hostOps0_3_W ∧ r ∉ hostOps0_4_W ∧ r ∉ hostOps0_5_W := by
    decide +kernel
  obtain ⟨h0, h1, h2, h3, h4, h5⟩ := hd r h
  exact (after_of_writes_sub _ _ hostOps0_5_writes h5).trans ((keep3 V r h3 h4).trans
    ((after_of_writes_sub _ _ hostOps0_2_writes h2).trans (keep1 V r h0 h1)))

/-- The hand's two layers. -/
theorem second_apply (b : Fin 256) (a : Fin 1352) :
    at2 (V5 V (Proc.devRef .tc main_v11) : Vec Ideal S256x1352 .f32) b a = (dense V).second (hands V b) a := by
  have e4 : V1 V (Proc.devRef .tc main_arg4) = V (Proc.devRef .tc main_arg4) := keep1 V main_arg4 (by decide) (by decide)
  have e5 : V1 V (Proc.devRef .tc main_arg5) = V (Proc.devRef .tc main_arg5) := keep1 V main_arg5 (by decide) (by decide)
  have h1 : ∀ i, at2 (V1 V (Proc.devRef .tc main_v6) : Vec Ideal S256x2704 .f32) b i = (dense V).first (hands V b) i := fun i => by
    refine (cut_apply (after hostOps0 V) b i).trans ?_
    exact congrArg (fun x : EReal => max x 0) (lin_apply V b i)
  unfold at2
  rw [keep5 V main_v11 (by decide) (by decide) (by decide) (by decide)]
  refine (lin2_apply (V1 V) b a).trans ?_
  rw [Finset.sum_congr rfl fun i _ => congrArg (_ * ·) (h1 i)]
  unfold dense
  rw [e4, e5]; rfl

section

variable (b : Fin 256) (z : Fin 52) (hz : ∑ k, piles V b z k = 0) (hf : ∀ t : Fin 52, ∑ k, piles V b t k = 0 → z ≤ t)

include hz hf

/-- The stop is the first empty slice. -/
theorem stop_apply : (V4 V (Proc.devRef .tc main_v18) : Vec Ideal S256 .i32) (ix1 b) = BitVec.ofNat 32 z.val := by
  have ep : piles (V1 V) = piles V := by
    unfold piles
    rw [keep1 V main_arg1 (by decide) (by decide)]
  have hs : (V2 V (Proc.devRef .tc main_v16) : Vec Ideal S256 .i1) (ix1 b) = 1#1 := by
    refine (some_apply (V1 V) b).trans ?_
    rw [ep, Routing.fold_ori]
    exact ⟨z, Finset.mem_univ _, by rw [hz]; simp⟩
  have he : ∀ t : Fin 52, (V2 V (Proc.devRef .tc main_v15) : Vec Ideal S256x52 .i1) (ix2 b t) = BitVec.ofBool (decide (∑ k, piles V b t k = 0)) :=
    fun t => (empty_apply (V1 V) b t).trans (by rw [ep])
  have hm : (after hostOps0_3 (V2 V) (Proc.devRef .tc main_v17) : Vec Ideal S256 .i32) (ix1 b) = BitVec.ofNat 32 z.val := by
    refine (first_read (V2 V) b).trans ?_
    refine argmax_apply _ _ _ (fun _ => rfl) b z ?_ fun t ht => ?_
    · rw [he, hz]; simp
    · rw [he] at ht
      exact hf t (of_decide_eq_true ((WordArith.ofBool_eq_one_iff _).mp ht))
  refine (stop_read (V3 V) (zero_read _) b).trans ?_
  have e : V3 V (Proc.devRef .tc main_v17) = after hostOps0_3 (V2 V) (Proc.devRef .tc main_v17) :=
    after_of_writes_sub _ _ hostOps0_4_writes (by decide)
  rw [keep3 V main_v16 (by decide) (by decide), hs, e, hm]
  rfl

/-- The flag of a step stands where the step is live. -/
theorem flag_entry (t : Fin 52) :
    (V5 V (Proc.devRef .tc main_v30_1) : Vec Ideal S52x256 .i1) (ix2 t b) = BitVec.ofBool (decide (t < z)) := by
  refine (flag_read (V4 V) t b).trans ?_
  rw [stop_apply V b z hz hf]
  unfold IntOp.cmpi
  simp only [BitVec.slt, small_toInt, Fin.lt_def, Nat.cast_lt]

/-- The mask of a pile stands where its first slice has cards. -/
theorem mask_entry :
    (V5 V (Proc.devRef .tc main_v20) : Vec Ideal S256 .i1) (ix1 b) = BitVec.ofBool (decide (0 < z.val)) := by
  refine (some_first_read (V4 V) b).trans ?_
  rw [stop_apply V b z hz hf]
  unfold IntOp.cmpi
  simp only [BitVec.slt, small_toInt]
  simp

end

/-! ## The loop, and the result -/

section

variable (m : (ℓ : Loc nD τ sig) → Buf (Elt Ideal) ℓ) (c : Dev nD)

/-- The contents at the launch. -/
abbrev L : Valuation τ sig (Elt Ideal) := fun b => m (c, b)

/-- The recurrence's parameters before any trip. -/
theorem gru_at (k : ℕ) : gruAt (atK m k c) = gru (L m c) := by
  have h2 : atK m k c (Proc.devRef .tc main_v30_2) = L m c (Proc.devRef .tc main_arg6) :=
    (keep_trips m c main_v30_2 (by decide) k).trans ((wih_read (V4 (L m c))).trans (keep4_arg (L m c) main_arg6 (by decide)))
  have h3 : atK m k c (Proc.devRef .tc main_v30_3) = L m c (Proc.devRef .tc main_arg8) :=
    (keep_trips m c main_v30_3 (by decide) k).trans ((bih_read (V4 (L m c))).trans (keep4_arg (L m c) main_arg8 (by decide)))
  have h4 : atK m k c (Proc.devRef .tc main_v30_4) = L m c (Proc.devRef .tc main_arg7) :=
    (keep_trips m c main_v30_4 (by decide) k).trans ((whh_read (V4 (L m c))).trans (keep4_arg (L m c) main_arg7 (by decide)))
  have h5 : atK m k c (Proc.devRef .tc main_v30_5) = L m c (Proc.devRef .tc main_arg9) :=
    (keep_trips m c main_v30_5 (by decide) k).trans ((bhh_read (V4 (L m c))).trans (keep4_arg (L m c) main_arg9 (by decide)))
  unfold gruAt
  rw [h2, h3, h4, h5]

/-- The piles before any trip. -/
theorem seq_at (k : ℕ) (t i : Fin 52) (b : Fin 256) : seqAt (atK m k c) (ix3 t b i) = piles (L m c) b t i := by
  unfold seqAt
  rw [keep_trips m c main_v30_0 (by decide) k]
  refine (seq_apply (V4 (L m c)) t i b).trans ?_
  unfold piles
  rw [keep4_arg (L m c) main_arg1 (by decide)]

variable (b : Fin 256) (z : Fin 52) (hz : ∑ k, piles (L m c) b z k = 0)
  (hf : ∀ t : Fin 52, ∑ k, piles (L m c) b t k = 0 → z ≤ t)

include hz hf

/-- THE LOOP: before trip `k` a pile's hidden state is the model's. -/
theorem state_apply : ∀ k : ℕ, k ≤ 52 → ∀ j : Fin 2704, hid (atK m k c) b j = (gru (L m c)).state (piles (L m c) b) k j
  | 0, _, j => zeros_apply (V4 (L m c)) b j
  | k + 1, hk, j => by
    have ih := state_apply k (by omega)
    have hs : hid (atK m (k + 1) c) b j = (step_main_v30_7 (atK m k c) : Vec Ideal S256x2704 .f32) (ix2 b j) :=
      congrFun ((trip_agree (atK m k c) main_v30_7 (by decide)).trans (STEP_main_v30_7 _)) (ix2 b j)
    have hc := step_apply (atK m k c) ⟨k, hk⟩ (atK_ctr m c k) b j
    have hfl : flagAt (atK m k c) (ix2 ⟨k, hk⟩ b) = BitVec.ofBool (decide ((⟨k, hk⟩ : Fin 52) < z)) := by
      unfold flagAt
      rw [keep_trips m c main_v30_1 (by decide) k]
      exact flag_entry (L m c) b z hz hf ⟨k, hk⟩
    have hx : (fun i => seqAt (atK m k c) (ix3 ⟨k, hk⟩ b i)) = piles (L m c) b ⟨k, hk⟩ := funext fun i => seq_at m c k _ i b
    have hh : (fun i => hid (atK m k c) b i) = (gru (L m c)).state (piles (L m c) b) k := funext ih
    have hl := live_iff (piles (L m c) b) z hz hf k
    rw [hs, hc, hfl, gru_at, hx, hh, ih j]
    by_cases hlt : k < z.val
    · rw [Model.Gru.state_succ (gru (L m c)) _ ⟨k, hk⟩ (hl.mpr hlt) j,
        decide_eq_true (show (⟨k, hk⟩ : Fin 52) < z from hlt)]
      rfl
    · rw [Model.Gru.state_stay (gru (L m c)) _ ⟨k, hk⟩ (fun h => hlt (hl.mp h)) j,
        decide_eq_false (show ¬ (⟨k, hk⟩ : Fin 52) < z from hlt)]
      rfl

/-- THE RESULT of the reference. -/
theorem result_apply (a : Fin 1352) :
    (finalContents condOps preI bodyI postI 52 m c (Proc.devRef .tc main_v42) : Vec Ideal S256x1352 .f32) (ix2 b a)
      = Model.net (gru (L m c)) (dense (L m c)) (hands (L m c) b) (piles (L m c) b) a := by
  have hk : ∀ r : Ref sig .tc, r ∉ tripW → r ∉ condOps_W →
      after condOps (atK m 52 c) (Proc.devRef .tc r) = V5 (L m c) (Proc.devRef .tc r) := fun r h1 h2 =>
    (keep_exit m c r h2).trans (keep_trips m c r h1 52)
  have h11 : at2 (after condOps (atK m 52 c) (Proc.devRef .tc main_v11) : Vec Ideal S256x1352 .f32) b a
      = (dense (L m c)).second (hands (L m c) b) a := by
    rw [hk main_v11 (by decide) (by decide)]; exact second_apply (L m c) b a
  have h20 : (after condOps (atK m 52 c) (Proc.devRef .tc main_v20) : Vec Ideal S256 .i1) (ix1 b)
      = BitVec.ofBool (decide (0 < z.val)) := by
    rw [hk main_v20 (by decide) (by decide)]; exact mask_entry (L m c) b z hz hf
  have h7 : at2 (after condOps (atK m 52 c) (Proc.devRef .tc main_v30_7) : Vec Ideal S256x2704 .f32) b
      = (gru (L m c)).state (piles (L m c) b) 52 := funext fun j => by
    rw [keep_exit m c main_v30_7 (by decide)]
    exact state_apply m c b z hz hf 52 le_rfl j
  have ha : ∀ r ∈ args, after condOps (atK m 52 c) (Proc.devRef .tc r) = L m c (Proc.devRef .tc r) := fun r hr => by
    have hd : ∀ r ∈ args, r ∉ condOps_W := by decide +kernel
    have h := (args_kept r hr).1
    exact (keep_exit m c r (hd r hr)).trans ((keep_trips m c r h.2.1 52).trans (keep_pre _ r h.1))
  have hd : (dense (after condOps (atK m 52 c))) = dense (L m c) := by
    unfold dense
    rw [ha main_arg2 (by decide), ha main_arg3 (by decide), ha main_arg4 (by decide), ha main_arg5 (by decide),
      ha main_arg10 (by decide), ha main_arg11 (by decide)]
  have hl := live_iff (piles (L m c) b) z hz hf 0
  refine (out_apply (after condOps (atK m 52 c)) b a).trans ?_
  rw [h11, h20, h7, hd]
  unfold Model.net
  by_cases h0 : 0 < z.val
  · rw [if_pos (hl.mpr h0), decide_eq_true h0]; rfl
  · rw [if_neg (fun h => h0 (hl.mp h)), decide_eq_false h0]; rfl

end

end Cert.Ref

end
-- ==== Proof.Value.Precondition.lean ====
/-
  What the precondition says at exact reals: every pile has a slice whose entries sum to zero.
-/
module

public import proofs.«01_k».proof.Proof.Gen.Pre_every_pile_has_an_empty_slice
public import proofs.«01_k».proof.Proof.Model.Args
public import Idealize.ShloMosaic.Lib.WordArith
public import Idealize.ShloMosaic.Lib.Routing.OpsOrder

@[expose] public section

noncomputable section

namespace Cert.Precondition

open Idealize.ShloMosaic Cert.Pre_every_pile_has_an_empty_slice

/-- The predicate of a pile is one where the pile has an empty slice. -/
theorem exists_empty (x0 : FVec Ideal S256x13x4x13 .f32) (x1 : FVec Ideal S256x52x4x13 .f32) (x2 : FVec Ideal S2704x676 .f32)
    (x3 : FVec Ideal S2704 .f32) (x4 : FVec Ideal S1352x2704 .f32) (x5 : FVec Ideal S1352 .f32) (x6 : FVec Ideal S8112x52 .f32)
    (x7 : FVec Ideal S8112x2704 .f32) (x8 x9 : FVec Ideal S8112 .f32) (x10 : FVec Ideal S1352x2704 .f32) (x11 : FVec Ideal S1352 .f32)
    (h : fn (F := Ideal) x0 x1 x2 x3 x4 x5 x6 x7 x8 x9 x10 x11 = fun _ => 1#1) (b : Fin 256) :
    ∃ t, ∑ k, Model.pilesOf x1 b t k = 0 := by
  have e : fn (F := Ideal) x0 x1 x2 x3 x4 x5 x6 x7 x8 x9 x10 x11 (ix1 b)
      = Finset.fold IntOp.ori (0#1) (fun t => BitVec.ofBool (decide (∑ k, Model.pilesOf x1 b t k = 0))) Finset.univ := by
    unfold fn
    pointwise [Model.pilesOf]
  rw [h] at e
  obtain ⟨t, _, ht⟩ := (Routing.fold_ori _ _).mp e.symm
  exact ⟨t, of_decide_eq_true ((WordArith.ofBool_eq_one_iff _).mp ht)⟩

end Cert.Precondition

end
-- ==== Proof.Algebraic.lean ====
/-
  The equality: at exact reals, where every pile has an empty slice, the kernel's program and the reference end with the
  same result, and both keep their arguments.
-/
module

public import proofs.«01_k».proof.Proof.Frames
public import proofs.«01_k».proof.Proof.Value.Kernel
public import proofs.«01_k».proof.Proof.Value.RefValue
public import proofs.«01_k».proof.Proof.Value.Precondition

@[expose] public section

noncomputable section

namespace Cert.Algebraic

open Idealize.ShloMosaic Idealize.ShloMosaic.TcCoe Idealize.SL.Sem

/-- The kernel's arguments are not scratch. -/
theorem kernel_args_unscoped : ∀ a ∈ Run.argRefs, ¬ (Proc.devRef .tc a : DevRef KernelIdeal.τ KernelIdeal.sig).isScoped := by
  decide +kernel

section

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ)

/-- What the kernel's program leaves as its result. -/
abbrev kernelResult (c : Dev KernelIdeal.nD) : Vec Ideal KernelIdeal.S256x1352 .f32 :=
  Run.W5 m g c (Proc.devRef .tc KernelIdeal.main_v49)

/-- What the reference leaves as its result. -/
abbrev referenceResult (c : Dev ReferenceIdeal.nD) : Vec Ideal ReferenceIdeal.S256x1352 .f32 :=
  StableHlo.finalContents ReferenceIdeal.Value.condOps ReferenceIdeal.Value.preI ReferenceIdeal.Value.bodyI
    ReferenceIdeal.Value.postI 52 m' c (Proc.devRef .tc ReferenceIdeal.main_v42)

/-- The two results are one array. -/
theorem results_eq (c : Dev KernelIdeal.nD)
    (hP : ∀ b : Fin 256, ∃ t, ∑ k, Model.pilesOf (m ((c.tc : Thread KernelIdeal.nD KernelIdeal.τ).loc KernelIdeal.main_arg1)) b t k = 0)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11)) :
    referenceResult m' c = kernelResult m g c := by
  have eg : Ref.gru (Ref.L m' c) = HostIdeal.gru (Run.W0 m g c) := by
    unfold Ref.gru HostIdeal.gru
    show Model.gruOf (m' ((c.tc : Thread ReferenceIdeal.nD ReferenceIdeal.τ).loc ReferenceIdeal.main_arg6))
      (m' ((c.tc : Thread ReferenceIdeal.nD ReferenceIdeal.τ).loc ReferenceIdeal.main_arg7))
      (m' ((c.tc : Thread ReferenceIdeal.nD ReferenceIdeal.τ).loc ReferenceIdeal.main_arg8))
      (m' ((c.tc : Thread ReferenceIdeal.nD ReferenceIdeal.τ).loc ReferenceIdeal.main_arg9)) = _
    rw [h6, h7, h8, h9]
  have ed : Ref.dense (Ref.L m' c) = HostIdeal.dense (Run.W0 m g c) := by
    unfold Ref.dense HostIdeal.dense
    show Model.denseOf (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg4))
      (m' ((c.tc : Thread ReferenceIdeal.nD ReferenceIdeal.τ).loc ReferenceIdeal.main_arg5))
      (m' ((c.tc : Thread ReferenceIdeal.nD ReferenceIdeal.τ).loc ReferenceIdeal.main_arg10))
      (m' ((c.tc : Thread ReferenceIdeal.nD ReferenceIdeal.τ).loc ReferenceIdeal.main_arg11)) = _
    rw [h2, h3, h4, h5, h10, h11]
  have ep : Ref.piles (Ref.L m' c) = HostIdeal.piles (Run.W0 m g c) := by
    unfold Ref.piles HostIdeal.piles
    show Model.pilesOf (m' ((c.tc : Thread ReferenceIdeal.nD ReferenceIdeal.τ).loc ReferenceIdeal.main_arg1)) = _
    rw [h1]
  have eh : Ref.hands (Ref.L m' c) = HostIdeal.hands (Run.W0 m g c) := by
    unfold Ref.hands HostIdeal.hands
    show Model.handsOf (m' ((c.tc : Thread ReferenceIdeal.nD ReferenceIdeal.τ).loc ReferenceIdeal.main_arg0)) = _
    rw [h0]
  have key : ∀ (b : Fin 256) (a : Fin 1352), referenceResult m' c (ix2 b a) = kernelResult m g c (ix2 b a) := fun b a => by
    have hb : ∃ t, ∑ k, Ref.piles (Ref.L m' c) b t k = 0 := by rw [ep]; exact hP b
    obtain ⟨z, hz, hf⟩ := Ref.exists_first _ hb
    refine (Ref.result_apply m' c b z hz hf a).trans ?_
    rw [eg, ed, ep, eh]
    exact (Run.result_apply c m g b a).symm
  funext i
  have hi : i = ix2 (i 0) (i 1) := by
    funext a
    fin_cases a <;> rfl
  rw [hi]
  exact key (i 0) (i 1)

end

/-- The claim. -/
theorem algebraic : @Cert.algebraic_KernelIdeal_ReferenceIdeal_pre_every_pile_has_an_empty_slice Cert.KernelIdeal.Gen.facts
    Cert.ReferenceIdeal.Gen.facts Cert.Pre_every_pile_has_an_empty_slice.Gen.facts := fun m g m' g' hpre hargs => by
  have hr : ∀ c, referenceResult m' c = kernelResult m g c := fun c => by
    obtain ⟨h0, h1, h2, h3, h4, h5, h6, h7, h8, h9, h10, h11⟩ := hargs c
    exact results_eq m g m' c (Precondition.exists_empty _ _ _ _ _ _ _ _ _ _ _ _ (hpre c)) h0 h1 h2 h3 h4 h5 h6 h7 h8 h9 h10 h11
  refine ⟨fun c => kernelResult m g c, ?_, ?_⟩
  · refine (θ_run (KernelIdeal.defs (F := Ideal)) _ _).mono (fun r h c => ?_) (Run.run m g)
    have e : ∀ a ∈ Run.argRefs, r.2.mem ((c.tc : Thread KernelIdeal.nD KernelIdeal.τ).loc a)
        = m ((c.tc : Thread KernelIdeal.nD KernelIdeal.τ).loc a) := fun a ha =>
      (h.1 c a (kernel_args_unscoped a ha)).trans (Run.W5_args m g c a ha)
    exact ⟨h.1 c KernelIdeal.main_v49 (by decide), e _ (by decide), e _ (by decide), e _ (by decide), e _ (by decide),
      e _ (by decide), e _ (by decide), e _ (by decide), e _ (by decide), e _ (by decide), e _ (by decide), e _ (by decide), e _ (by decide)⟩
  · refine (θ_run (ReferenceIdeal.defs (F := Ideal)) _ _).mono (fun r h c => ?_) (Frames.reference_run m' g')
    have e := h.1 c
    exact ⟨(h.2.1 c).trans (hr c), e _ (by decide), e _ (by decide), e _ (by decide), e _ (by decide),
      e _ (by decide), e _ (by decide), e _ (by decide), e _ (by decide), e _ (by decide), e _ (by decide), e _ (by decide), e _ (by decide)⟩

end Cert.Algebraic

end
-- ==== Proof.lean ====
/-
  The certificate: the frames of the kernel, of the kernel at exact reals and of the reference at exact reals, and the
  equality of the last two.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_every_pile_has_an_empty_slice
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_every_pile_has_an_empty_slice.Gen.facts,
    Cert.Frames.kernel, Cert.Frames.kernelIdeal, Cert.Frames.kernelIdeal_pre, Cert.Frames.referenceIdeal,
    Cert.Frames.referenceIdeal_pre, trivial, Cert.Algebraic.algebraic⟩

end Cert.Proof

end
